-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenTail (m : (ℓ : Loc Cert.EvenTail.nD Cert.EvenTail.τ Cert.EvenTail.sig) → Buf (Elt Bits) ℓ) : Prop :=
  True

def Pre_EvenTailIdeal (m : (ℓ : Loc Cert.EvenTailIdeal.nD Cert.EvenTailIdeal.τ Cert.EvenTailIdeal.sig) → Buf (Elt Ideal) ℓ) : Prop :=
  True

def Pre_EvenTailRefIdeal (m : (ℓ : Loc Cert.EvenTailRefIdeal.nD Cert.EvenTailRefIdeal.τ Cert.EvenTailRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_EvenTail [hEvenTail : Cert.EvenTail.Facts] : Prop :=
  ∀ (m : (ℓ : Loc Cert.EvenTail.nD Cert.EvenTail.τ Cert.EvenTail.sig) → Buf (Elt Bits) ℓ) (g : Dev Cert.EvenTail.nD → PrngReg), Pre_EvenTail m →
    θ_run (Cert.EvenTail.defs (F := Bits)) (onTc (τ := Cert.EvenTail.τ) (Cert.EvenTail.main (F := Bits))) ⟨m, fun _ => 0, g⟩ (fun r => (∀ c : Dev Cert.EvenTail.nD,
      r.2.mem ((c.tc : Thread Cert.EvenTail.nD Cert.EvenTail.τ).loc Cert.EvenTail.main_arg0) = m ((c.tc : Thread Cert.EvenTail.nD Cert.EvenTail.τ).loc Cert.EvenTail.main_arg0)
      ∧ r.2.mem ((c.tc : Thread Cert.EvenTail.nD Cert.EvenTail.τ).loc Cert.EvenTail.main_arg1) = m ((c.tc : Thread Cert.EvenTail.nD Cert.EvenTail.τ).loc Cert.EvenTail.main_arg1)
      ∧ r.2.mem ((c.tc : Thread Cert.EvenTail.nD Cert.EvenTail.τ).loc Cert.EvenTail.main_arg2) = m ((c.tc : Thread Cert.EvenTail.nD Cert.EvenTail.τ).loc Cert.EvenTail.main_arg2)
      ∧ r.2.mem ((c.tc : Thread Cert.EvenTail.nD Cert.EvenTail.τ).loc Cert.EvenTail.main_arg3) = m ((c.tc : Thread Cert.EvenTail.nD Cert.EvenTail.τ).loc Cert.EvenTail.main_arg3)
      ∧ r.2.mem ((c.tc : Thread Cert.EvenTail.nD Cert.EvenTail.τ).loc Cert.EvenTail.main_arg4) = m ((c.tc : Thread Cert.EvenTail.nD Cert.EvenTail.τ).loc Cert.EvenTail.main_arg4)
      ∧ r.2.mem ((c.tc : Thread Cert.EvenTail.nD Cert.EvenTail.τ).loc Cert.EvenTail.main_arg5) = m ((c.tc : Thread Cert.EvenTail.nD Cert.EvenTail.τ).loc Cert.EvenTail.main_arg5)
      ∧ r.2.mem ((c.tc : Thread Cert.EvenTail.nD Cert.EvenTail.τ).loc Cert.EvenTail.main_arg6) = m ((c.tc : Thread Cert.EvenTail.nD Cert.EvenTail.τ).loc Cert.EvenTail.main_arg6)
      ∧ r.2.mem ((c.tc : Thread Cert.EvenTail.nD Cert.EvenTail.τ).loc Cert.EvenTail.main_arg7) = m ((c.tc : Thread Cert.EvenTail.nD Cert.EvenTail.τ).loc Cert.EvenTail.main_arg7))
      ∧ r.2.sem = fun _ => 0)

def quiescent_EvenTailIdeal [hEvenTailIdeal : Cert.EvenTailIdeal.Facts] : Prop :=
  ∀ (m : (ℓ : Loc Cert.EvenTailIdeal.nD Cert.EvenTailIdeal.τ Cert.EvenTailIdeal.sig) → Buf (Elt Ideal) ℓ) (g : Dev Cert.EvenTailIdeal.nD → PrngReg), Pre_EvenTailIdeal m →
    θ_run (Cert.EvenTailIdeal.defs (F := Ideal)) (onTc (τ := Cert.EvenTailIdeal.τ) (Cert.EvenTailIdeal.main (F := Ideal))) ⟨m, fun _ => 0, g⟩ (fun r => (∀ c : Dev Cert.EvenTailIdeal.nD,
      r.2.mem ((c.tc : Thread Cert.EvenTailIdeal.nD Cert.EvenTailIdeal.τ).loc Cert.EvenTailIdeal.main_arg0) = m ((c.tc : Thread Cert.EvenTailIdeal.nD Cert.EvenTailIdeal.τ).loc Cert.EvenTailIdeal.main_arg0)
      ∧ r.2.mem ((c.tc : Thread Cert.EvenTailIdeal.nD Cert.EvenTailIdeal.τ).loc Cert.EvenTailIdeal.main_arg1) = m ((c.tc : Thread Cert.EvenTailIdeal.nD Cert.EvenTailIdeal.τ).loc Cert.EvenTailIdeal.main_arg1)
      ∧ r.2.mem ((c.tc : Thread Cert.EvenTailIdeal.nD Cert.EvenTailIdeal.τ).loc Cert.EvenTailIdeal.main_arg2) = m ((c.tc : Thread Cert.EvenTailIdeal.nD Cert.EvenTailIdeal.τ).loc Cert.EvenTailIdeal.main_arg2)
      ∧ r.2.mem ((c.tc : Thread Cert.EvenTailIdeal.nD Cert.EvenTailIdeal.τ).loc Cert.EvenTailIdeal.main_arg3) = m ((c.tc : Thread Cert.EvenTailIdeal.nD Cert.EvenTailIdeal.τ).loc Cert.EvenTailIdeal.main_arg3)
      ∧ r.2.mem ((c.tc : Thread Cert.EvenTailIdeal.nD Cert.EvenTailIdeal.τ).loc Cert.EvenTailIdeal.main_arg4) = m ((c.tc : Thread Cert.EvenTailIdeal.nD Cert.EvenTailIdeal.τ).loc Cert.EvenTailIdeal.main_arg4)
      ∧ r.2.mem ((c.tc : Thread Cert.EvenTailIdeal.nD Cert.EvenTailIdeal.τ).loc Cert.EvenTailIdeal.main_arg5) = m ((c.tc : Thread Cert.EvenTailIdeal.nD Cert.EvenTailIdeal.τ).loc Cert.EvenTailIdeal.main_arg5)
      ∧ r.2.mem ((c.tc : Thread Cert.EvenTailIdeal.nD Cert.EvenTailIdeal.τ).loc Cert.EvenTailIdeal.main_arg6) = m ((c.tc : Thread Cert.EvenTailIdeal.nD Cert.EvenTailIdeal.τ).loc Cert.EvenTailIdeal.main_arg6)
      ∧ r.2.mem ((c.tc : Thread Cert.EvenTailIdeal.nD Cert.EvenTailIdeal.τ).loc Cert.EvenTailIdeal.main_arg7) = m ((c.tc : Thread Cert.EvenTailIdeal.nD Cert.EvenTailIdeal.τ).loc Cert.EvenTailIdeal.main_arg7))
      ∧ r.2.sem = fun _ => 0)

def quiescent_EvenTailRefIdeal [hEvenTailRefIdeal : Cert.EvenTailRefIdeal.Facts] : Prop :=
  ∀ (m : (ℓ : Loc Cert.EvenTailRefIdeal.nD Cert.EvenTailRefIdeal.τ Cert.EvenTailRefIdeal.sig) → Buf (Elt Ideal) ℓ) (g : Dev Cert.EvenTailRefIdeal.nD → PrngReg), Pre_EvenTailRefIdeal m →
    θ_run (Cert.EvenTailRefIdeal.defs (F := Ideal)) (onTc (τ := Cert.EvenTailRefIdeal.τ) (Cert.EvenTailRefIdeal.main (F := Ideal))) ⟨m, fun _ => 0, g⟩ (fun r => (∀ c : Dev Cert.EvenTailRefIdeal.nD,
      r.2.mem ((c.tc : Thread Cert.EvenTailRefIdeal.nD Cert.EvenTailRefIdeal.τ).loc Cert.EvenTailRefIdeal.main_arg0) = m ((c.tc : Thread Cert.EvenTailRefIdeal.nD Cert.EvenTailRefIdeal.τ).loc Cert.EvenTailRefIdeal.main_arg0)
      ∧ r.2.mem ((c.tc : Thread Cert.EvenTailRefIdeal.nD Cert.EvenTailRefIdeal.τ).loc Cert.EvenTailRefIdeal.main_arg1) = m ((c.tc : Thread Cert.EvenTailRefIdeal.nD Cert.EvenTailRefIdeal.τ).loc Cert.EvenTailRefIdeal.main_arg1)
      ∧ r.2.mem ((c.tc : Thread Cert.EvenTailRefIdeal.nD Cert.EvenTailRefIdeal.τ).loc Cert.EvenTailRefIdeal.main_arg2) = m ((c.tc : Thread Cert.EvenTailRefIdeal.nD Cert.EvenTailRefIdeal.τ).loc Cert.EvenTailRefIdeal.main_arg2)
      ∧ r.2.mem ((c.tc : Thread Cert.EvenTailRefIdeal.nD Cert.EvenTailRefIdeal.τ).loc Cert.EvenTailRefIdeal.main_arg3) = m ((c.tc : Thread Cert.EvenTailRefIdeal.nD Cert.EvenTailRefIdeal.τ).loc Cert.EvenTailRefIdeal.main_arg3)
      ∧ r.2.mem ((c.tc : Thread Cert.EvenTailRefIdeal.nD Cert.EvenTailRefIdeal.τ).loc Cert.EvenTailRefIdeal.main_arg4) = m ((c.tc : Thread Cert.EvenTailRefIdeal.nD Cert.EvenTailRefIdeal.τ).loc Cert.EvenTailRefIdeal.main_arg4)
      ∧ r.2.mem ((c.tc : Thread Cert.EvenTailRefIdeal.nD Cert.EvenTailRefIdeal.τ).loc Cert.EvenTailRefIdeal.main_arg5) = m ((c.tc : Thread Cert.EvenTailRefIdeal.nD Cert.EvenTailRefIdeal.τ).loc Cert.EvenTailRefIdeal.main_arg5)
      ∧ r.2.mem ((c.tc : Thread Cert.EvenTailRefIdeal.nD Cert.EvenTailRefIdeal.τ).loc Cert.EvenTailRefIdeal.main_arg6) = m ((c.tc : Thread Cert.EvenTailRefIdeal.nD Cert.EvenTailRefIdeal.τ).loc Cert.EvenTailRefIdeal.main_arg6)
      ∧ r.2.mem ((c.tc : Thread Cert.EvenTailRefIdeal.nD Cert.EvenTailRefIdeal.τ).loc Cert.EvenTailRefIdeal.main_arg7) = m ((c.tc : Thread Cert.EvenTailRefIdeal.nD Cert.EvenTailRefIdeal.τ).loc Cert.EvenTailRefIdeal.main_arg7))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)) →
    ∃ (v0 : (c : Dev Cert.RetIdeal.nD) → Buf (Elt Ideal) ((c.tc : Thread Cert.RetIdeal.nD Cert.RetIdeal.τ).loc Cert.RetIdeal.main_v10)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v10) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v100) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v0)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v0) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v3) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v13)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v13) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v78) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v35_0)) (v1 : (c : Dev Cert.EvenInIdeal.nD) → Buf (Elt Ideal) ((c.tc : Thread Cert.EvenInIdeal.nD Cert.EvenInIdeal.τ).loc Cert.EvenInIdeal.main_v35_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v35_0) = v0 c
          ∧ r.2.mem ((c.tc : Thread Cert.EvenInIdeal.nD Cert.EvenInIdeal.τ).loc Cert.EvenInIdeal.main_v35_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v95) = v0 c
          ∧ r.2.mem ((c.tc : Thread Cert.EvenInRefIdeal.nD Cert.EvenInRefIdeal.τ).loc Cert.EvenInRefIdeal.main_v97) = v1 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_EvenTail_EvenTailIdeal : Prop :=
  True

def algebraic_EvenTailIdeal_EvenTailRefIdeal [hEvenTailIdeal : Cert.EvenTailIdeal.Facts] [hEvenTailRefIdeal : Cert.EvenTailRefIdeal.Facts] : Prop :=
  ∀ (m : (ℓ : Loc Cert.EvenTailIdeal.nD Cert.EvenTailIdeal.τ Cert.EvenTailIdeal.sig) → Buf (Elt Ideal) ℓ) (g : Dev Cert.EvenTailIdeal.nD → PrngReg)
    (m' : (ℓ : Loc Cert.EvenTailRefIdeal.nD Cert.EvenTailRefIdeal.τ Cert.EvenTailRefIdeal.sig) → Buf (Elt Ideal) ℓ) (g' : Dev Cert.EvenTailRefIdeal.nD → PrngReg), Pre_EvenTailIdeal m →
    (∀ c : Dev Cert.EvenTailIdeal.nD,
      m' ((c.tc : Thread Cert.EvenTailRefIdeal.nD Cert.EvenTailRefIdeal.τ).loc Cert.EvenTailRefIdeal.main_arg0) = m ((c.tc : Thread Cert.EvenTailIdeal.nD Cert.EvenTailIdeal.τ).loc Cert.EvenTailIdeal.main_arg0)
      ∧ m' ((c.tc : Thread Cert.EvenTailRefIdeal.nD Cert.EvenTailRefIdeal.τ).loc Cert.EvenTailRefIdeal.main_arg1) = m ((c.tc : Thread Cert.EvenTailIdeal.nD Cert.EvenTailIdeal.τ).loc Cert.EvenTailIdeal.main_arg1)
      ∧ m' ((c.tc : Thread Cert.EvenTailRefIdeal.nD Cert.EvenTailRefIdeal.τ).loc Cert.EvenTailRefIdeal.main_arg2) = m ((c.tc : Thread Cert.EvenTailIdeal.nD Cert.EvenTailIdeal.τ).loc Cert.EvenTailIdeal.main_arg2)
      ∧ m' ((c.tc : Thread Cert.EvenTailRefIdeal.nD Cert.EvenTailRefIdeal.τ).loc Cert.EvenTailRefIdeal.main_arg3) = m ((c.tc : Thread Cert.EvenTailIdeal.nD Cert.EvenTailIdeal.τ).loc Cert.EvenTailIdeal.main_arg3)
      ∧ m' ((c.tc : Thread Cert.EvenTailRefIdeal.nD Cert.EvenTailRefIdeal.τ).loc Cert.EvenTailRefIdeal.main_arg4) = m ((c.tc : Thread Cert.EvenTailIdeal.nD Cert.EvenTailIdeal.τ).loc Cert.EvenTailIdeal.main_arg4)
      ∧ m' ((c.tc : Thread Cert.EvenTailRefIdeal.nD Cert.EvenTailRefIdeal.τ).loc Cert.EvenTailRefIdeal.main_arg5) = m ((c.tc : Thread Cert.EvenTailIdeal.nD Cert.EvenTailIdeal.τ).loc Cert.EvenTailIdeal.main_arg5)
      ∧ m' ((c.tc : Thread Cert.EvenTailRefIdeal.nD Cert.EvenTailRefIdeal.τ).loc Cert.EvenTailRefIdeal.main_arg6) = m ((c.tc : Thread Cert.EvenTailIdeal.nD Cert.EvenTailIdeal.τ).loc Cert.EvenTailIdeal.main_arg6)
      ∧ m' ((c.tc : Thread Cert.EvenTailRefIdeal.nD Cert.EvenTailRefIdeal.τ).loc Cert.EvenTailRefIdeal.main_arg7) = m ((c.tc : Thread Cert.EvenTailIdeal.nD Cert.EvenTailIdeal.τ).loc Cert.EvenTailIdeal.main_arg7)) →
    ∃ (v0 : (c : Dev Cert.EvenTailIdeal.nD) → Buf (Elt Ideal) ((c.tc : Thread Cert.EvenTailIdeal.nD Cert.EvenTailIdeal.τ).loc Cert.EvenTailIdeal.main_v5)),
      θ_run (Cert.EvenTailIdeal.defs (F := Ideal)) (onTc (τ := Cert.EvenTailIdeal.τ) (Cert.EvenTailIdeal.main (F := Ideal))) ⟨m, fun _ => 0, g⟩ (fun r => ∀ c : Dev Cert.EvenTailIdeal.nD,
          r.2.mem ((c.tc : Thread Cert.EvenTailIdeal.nD Cert.EvenTailIdeal.τ).loc Cert.EvenTailIdeal.main_v5) = v0 c
          ∧ r.2.mem ((c.tc : Thread Cert.EvenTailIdeal.nD Cert.EvenTailIdeal.τ).loc Cert.EvenTailIdeal.main_arg0) = m ((c.tc : Thread Cert.EvenTailIdeal.nD Cert.EvenTailIdeal.τ).loc Cert.EvenTailIdeal.main_arg0)
          ∧ r.2.mem ((c.tc : Thread Cert.EvenTailIdeal.nD Cert.EvenTailIdeal.τ).loc Cert.EvenTailIdeal.main_arg1) = m ((c.tc : Thread Cert.EvenTailIdeal.nD Cert.EvenTailIdeal.τ).loc Cert.EvenTailIdeal.main_arg1)
          ∧ r.2.mem ((c.tc : Thread Cert.EvenTailIdeal.nD Cert.EvenTailIdeal.τ).loc Cert.EvenTailIdeal.main_arg2) = m ((c.tc : Thread Cert.EvenTailIdeal.nD Cert.EvenTailIdeal.τ).loc Cert.EvenTailIdeal.main_arg2)
          ∧ r.2.mem ((c.tc : Thread Cert.EvenTailIdeal.nD Cert.EvenTailIdeal.τ).loc Cert.EvenTailIdeal.main_arg3) = m ((c.tc : Thread Cert.EvenTailIdeal.nD Cert.EvenTailIdeal.τ).loc Cert.EvenTailIdeal.main_arg3)
          ∧ r.2.mem ((c.tc : Thread Cert.EvenTailIdeal.nD Cert.EvenTailIdeal.τ).loc Cert.EvenTailIdeal.main_arg4) = m ((c.tc : Thread Cert.EvenTailIdeal.nD Cert.EvenTailIdeal.τ).loc Cert.EvenTailIdeal.main_arg4)
          ∧ r.2.mem ((c.tc : Thread Cert.EvenTailIdeal.nD Cert.EvenTailIdeal.τ).loc Cert.EvenTailIdeal.main_arg5) = m ((c.tc : Thread Cert.EvenTailIdeal.nD Cert.EvenTailIdeal.τ).loc Cert.EvenTailIdeal.main_arg5)
          ∧ r.2.mem ((c.tc : Thread Cert.EvenTailIdeal.nD Cert.EvenTailIdeal.τ).loc Cert.EvenTailIdeal.main_arg6) = m ((c.tc : Thread Cert.EvenTailIdeal.nD Cert.EvenTailIdeal.τ).loc Cert.EvenTailIdeal.main_arg6)
          ∧ r.2.mem ((c.tc : Thread Cert.EvenTailIdeal.nD Cert.EvenTailIdeal.τ).loc Cert.EvenTailIdeal.main_arg7) = m ((c.tc : Thread Cert.EvenTailIdeal.nD Cert.EvenTailIdeal.τ).loc Cert.EvenTailIdeal.main_arg7))
      ∧ θ_run (Cert.EvenTailRefIdeal.defs (F := Ideal)) (onTc (τ := Cert.EvenTailRefIdeal.τ) (Cert.EvenTailRefIdeal.main (F := Ideal))) ⟨m', fun _ => 0, g'⟩ (fun r => ∀ c : Dev Cert.EvenTailRefIdeal.nD,
          r.2.mem ((c.tc : Thread Cert.EvenTailRefIdeal.nD Cert.EvenTailRefIdeal.τ).loc Cert.EvenTailRefIdeal.main_v265) = v0 c
          ∧ r.2.mem ((c.tc : Thread Cert.EvenTailRefIdeal.nD Cert.EvenTailRefIdeal.τ).loc Cert.EvenTailRefIdeal.main_arg0) = m' ((c.tc : Thread Cert.EvenTailRefIdeal.nD Cert.EvenTailRefIdeal.τ).loc Cert.EvenTailRefIdeal.main_arg0)
          ∧ r.2.mem ((c.tc : Thread Cert.EvenTailRefIdeal.nD Cert.EvenTailRefIdeal.τ).loc Cert.EvenTailRefIdeal.main_arg1) = m' ((c.tc : Thread Cert.EvenTailRefIdeal.nD Cert.EvenTailRefIdeal.τ).loc Cert.EvenTailRefIdeal.main_arg1)
          ∧ r.2.mem ((c.tc : Thread Cert.EvenTailRefIdeal.nD Cert.EvenTailRefIdeal.τ).loc Cert.EvenTailRefIdeal.main_arg2) = m' ((c.tc : Thread Cert.EvenTailRefIdeal.nD Cert.EvenTailRefIdeal.τ).loc Cert.EvenTailRefIdeal.main_arg2)
          ∧ r.2.mem ((c.tc : Thread Cert.EvenTailRefIdeal.nD Cert.EvenTailRefIdeal.τ).loc Cert.EvenTailRefIdeal.main_arg3) = m' ((c.tc : Thread Cert.EvenTailRefIdeal.nD Cert.EvenTailRefIdeal.τ).loc Cert.EvenTailRefIdeal.main_arg3)
          ∧ r.2.mem ((c.tc : Thread Cert.EvenTailRefIdeal.nD Cert.EvenTailRefIdeal.τ).loc Cert.EvenTailRefIdeal.main_arg4) = m' ((c.tc : Thread Cert.EvenTailRefIdeal.nD Cert.EvenTailRefIdeal.τ).loc Cert.EvenTailRefIdeal.main_arg4)
          ∧ r.2.mem ((c.tc : Thread Cert.EvenTailRefIdeal.nD Cert.EvenTailRefIdeal.τ).loc Cert.EvenTailRefIdeal.main_arg5) = m' ((c.tc : Thread Cert.EvenTailRefIdeal.nD Cert.EvenTailRefIdeal.τ).loc Cert.EvenTailRefIdeal.main_arg5)
          ∧ r.2.mem ((c.tc : Thread Cert.EvenTailRefIdeal.nD Cert.EvenTailRefIdeal.τ).loc Cert.EvenTailRefIdeal.main_arg6) = m' ((c.tc : Thread Cert.EvenTailRefIdeal.nD Cert.EvenTailRefIdeal.τ).loc Cert.EvenTailRefIdeal.main_arg6)
          ∧ r.2.mem ((c.tc : Thread Cert.EvenTailRefIdeal.nD Cert.EvenTailRefIdeal.τ).loc Cert.EvenTailRefIdeal.main_arg7) = m' ((c.tc : Thread Cert.EvenTailRefIdeal.nD Cert.EvenTailRefIdeal.τ).loc Cert.EvenTailRefIdeal.main_arg7))

def Claim : Prop :=
  ∃ (hRet : Cert.Ret.Facts) (hRetIdeal : Cert.RetIdeal.Facts) (hRetRefIdeal : Cert.RetRefIdeal.Facts) (hOddOut : Cert.OddOut.Facts) (hOddOutIdeal : Cert.OddOutIdeal.Facts) (hOddOutRefIdeal : Cert.OddOutRefIdeal.Facts) (hOddIn : Cert.OddIn.Facts) (hOddInIdeal : Cert.OddInIdeal.Facts) (hOddInRefIdeal : Cert.OddInRefIdeal.Facts) (hEvenIn : Cert.EvenIn.Facts) (hEvenInIdeal : Cert.EvenInIdeal.Facts) (hEvenInRefIdeal : Cert.EvenInRefIdeal.Facts) (hEvenTail : Cert.EvenTail.Facts) (hEvenTailIdeal : Cert.EvenTailIdeal.Facts) (hEvenTailRefIdeal : Cert.EvenTailRefIdeal.Facts),
    quiescent_Ret (hRet := hRet)
    ∧ quiescent_RetIdeal (hRetIdeal := hRetIdeal)
    ∧ quiescent_RetRefIdeal (hRetRefIdeal := hRetRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenTail (hEvenTail := hEvenTail)
    ∧ quiescent_EvenTailIdeal (hEvenTailIdeal := hEvenTailIdeal)
    ∧ quiescent_EvenTailRefIdeal (hEvenTailRefIdeal := hEvenTailRefIdeal)
    ∧ preserves_Ret_RetIdeal
    ∧ algebraic_RetIdeal_RetRefIdeal (hRetIdeal := hRetIdeal) (hRetRefIdeal := hRetRefIdeal)
    ∧ preserves_OddOut_OddOutIdeal
    ∧ algebraic_OddOutIdeal_OddOutRefIdeal (hOddOutIdeal := hOddOutIdeal) (hOddOutRefIdeal := hOddOutRefIdeal)
    ∧ preserves_OddIn_OddInIdeal
    ∧ algebraic_OddInIdeal_OddInRefIdeal (hOddInIdeal := hOddInIdeal) (hOddInRefIdeal := hOddInRefIdeal)
    ∧ preserves_EvenIn_EvenInIdeal
    ∧ algebraic_EvenInIdeal_EvenInRefIdeal (hEvenInIdeal := hEvenInIdeal) (hEvenInRefIdeal := hEvenInRefIdeal)
    ∧ preserves_EvenTail_EvenTailIdeal
    ∧ algebraic_EvenTailIdeal_EvenTailRefIdeal (hEvenTailIdeal := hEvenTailIdeal) (hEvenTailRefIdeal := hEvenTailRefIdeal)
-- ==== Ret.lean ====
abbrev S16384x6144 : Shape := ⟨2, ![16384, 6144]⟩
abbrev S4 : Shape := ⟨1, ![4]⟩
abbrev S_ : Shape := ⟨0, ![]⟩
abbrev S2x8192x6144 : Shape := ⟨3, ![2, 8192, 6144]⟩
abbrev S2x8192x2048 : Shape := ⟨3, ![2, 8192, 2048]⟩
abbrev S2x128x1024 : Shape := ⟨3, ![2, 128, 1024]⟩
abbrev S2x128x2048 : Shape := ⟨3, ![2, 128, 2048]⟩
abbrev S2x4x256x512 : Shape := ⟨4, ![2, 4, 256, 512]⟩
abbrev S128x128 : Shape := ⟨2, ![128, 128]⟩
abbrev S128x1 : Shape := ⟨2, ![128, 1]⟩
abbrev S1 : Shape := ⟨1, ![1]⟩
abbrev S1x1 : Shape := ⟨2, ![1, 1]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x1x256x512 : Shape := ⟨4, ![1, 1, 256, 512]⟩
abbrev S256x512 : Shape := ⟨2, ![256, 512]⟩
abbrev S256x128 : Shape := ⟨2, ![256, 128]⟩
abbrev S128 : Shape := ⟨1, ![128]⟩

abbrev nBuf : Space → Nat
  | .hbm => 15
  | .vmem => 11
  | .smem => 1
  | _ => 0

abbrev bufTy : (tb : Table) → Fin (tcTables nBuf tb) → BufTy
  | .hbm, ⟨0, _⟩ => ⟨S16384x6144, .bf16⟩
  | .hbm, ⟨1, _⟩ => ⟨S4, .f32⟩
  | .hbm, ⟨2, _⟩ => ⟨S_, .f32⟩
  | .hbm, ⟨3, _⟩ => ⟨S4, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S2x8192x6144, .bf16⟩
  | .hbm, ⟨14, _⟩ => ⟨S2x8192x2048, .bf16⟩
  | .local _ .vmem, ⟨0, _⟩ => ⟨S2x128x1024, .bf16⟩
  | .local _ .vmem, ⟨1, _⟩ => ⟨S2x128x1024, .bf16⟩
  | .local _ .vmem, ⟨2, _⟩ => ⟨S2x128x1024, .bf16⟩
  | .local _ .vmem, ⟨3, _⟩ => ⟨S2x128x1024, .bf16⟩
  | .local _ .vmem, ⟨4, _⟩ => ⟨S2x128x2048, .bf16⟩
  | .local _ .vmem, ⟨5, _⟩ => ⟨S2x128x2048, .bf16⟩
  | .local _ .vmem, ⟨6, _⟩ => ⟨S2x128x2048, .bf16⟩
  | .local _ .vmem, ⟨7, _⟩ => ⟨S2x128x2048, .bf16⟩
  | .local _ .vmem, ⟨8, _⟩ => ⟨S2x128x2048, .bf16⟩
  | .local _ .vmem, ⟨9, _⟩ => ⟨S2x128x2048, .bf16⟩
  | .local _ .vmem, ⟨10, _⟩ => ⟨S2x4x256x512, .f32⟩
  | .local _ .smem, ⟨0, _⟩ => ⟨S4, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RetRefIdeal.lean ====
abbrev S16384x6144 : Shape := ⟨2, ![16384, 6144]⟩
abbrev S2x8192x6144 : Shape := ⟨3, ![2, 8192, 6144]⟩
abbrev S2x8192x1024 : Shape := ⟨3, ![2, 8192, 1024]⟩
abbrev S2x8192x2048 : Shape := ⟨3, ![2, 8192, 2048]⟩
abbrev S4 : Shape := ⟨1, ![4]⟩
abbrev S_ : Shape := ⟨0, ![]⟩
abbrev S2x8192x4x256 : Shape := ⟨4, ![2, 8192, 4, 256]⟩
abbrev S2x4x8192x256 : Shape := ⟨4, ![2, 4, 8192, 256]⟩
abbrev S2x8192x4x512 : Shape := ⟨4, ![2, 8192, 4, 512]⟩
abbrev S2x4x8192x512 : Shape := ⟨4, ![2, 4, 8192, 512]⟩
abbrev S2x4x64x128x256 : Shape := ⟨5, ![2, 4, 64, 128, 256]⟩
abbrev S2x4x64x128x512 : Shape := ⟨5, ![2, 4, 64, 128, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S2x4x64x128x128 : Shape := ⟨5, ![2, 4, 64, 128, 128]⟩
abbrev S4x1x128x128 : Shape := ⟨4, ![4, 1, 128, 128]⟩
abbrev S1x4x1x128x128 : Shape := ⟨5, ![1, 4, 1, 128, 128]⟩
abbrev S4x1 : Shape := ⟨2, ![4, 1]⟩
abbrev S4x128 : Shape := ⟨2, ![4, 128]⟩
abbrev S1x4x128x1 : Shape := ⟨4, ![1, 4, 128, 1]⟩
abbrev S1x4x1x1 : Shape := ⟨4, ![1, 4, 1, 1]⟩
abbrev S2x4x256x512 : Shape := ⟨4, ![2, 4, 256, 512]⟩
abbrev S64x2x4x128x256 : Shape := ⟨5, ![64, 2, 4, 128, 256]⟩
abbrev S64x2x4x128x512 : Shape := ⟨5, ![64, 2, 4, 128, 512]⟩
abbrev S1x2x4x128x256 : Shape := ⟨5, ![1, 2, 4, 128, 256]⟩
abbrev S2x4x128x256 : Shape := ⟨4, ![2, 4, 128, 256]⟩
abbrev S1x2x4x128x512 : Shape := ⟨5, ![1, 2, 4, 128, 512]⟩
abbrev S2x4x128x512 : Shape := ⟨4, ![2, 4, 128, 512]⟩
abbrev S2x4x8192 : Shape := ⟨3, ![2, 4, 8192]⟩
abbrev S2x4x8192x1 : Shape := ⟨4, ![2, 4, 8192, 1]⟩

abbrev nBuf : Space → Nat
  | .hbm => 175
  | .vmem => 0
  | .smem => 0
  | _ => 0

abbrev hbmTy0_0 (i : Nat) : BufTy := match i % 128 with
  | 0 => ⟨S16384x6144, .bf16⟩
  | 1 => ⟨S16384x6144, .f32⟩
  | 2 => ⟨S2x8192x6144, .f32⟩
  | 3 => ⟨S2x8192x1024, .f32⟩
  | 4 => ⟨S2x8192x1024, .f32⟩
  | 5 => ⟨S2x8192x2048, .f32⟩
  | 6 => ⟨S2x8192x2048, .f32⟩
  | 7 => ⟨S4, .f32⟩
  | 8 => ⟨S_, .f32⟩
  | 9 => ⟨S4, .f32⟩
  | 10 => ⟨S4, .f32⟩
  | 11 => ⟨S_, .f32⟩
  | 12 => ⟨S4, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S2x8192x4x256, .f32⟩
  | 20 => ⟨S2x4x8192x256, .f32⟩
  | 21 => ⟨S2x8192x4x256, .f32⟩
  | 22 => ⟨S2x4x8192x256, .f32⟩
  | 23 => ⟨S2x8192x4x512, .f32⟩
  | 24 => ⟨S2x4x8192x512, .f32⟩
  | 25 => ⟨S2x4x64x128x256, .f32⟩
  | 26 => ⟨S2x4x64x128x256, .f32⟩
  | 27 => ⟨S2x4x64x128x512, .f32⟩
  | 28 => ⟨S128, .f32⟩
  | 29 => ⟨S128x1, .f32⟩
  | 30 => ⟨S1x128, .f32⟩
  | 31 => ⟨S128x128, .f32⟩
  | 32 => ⟨S128x128, .f32⟩
  | 33 => ⟨S128x128, .f32⟩
  | 34 => ⟨S_, .f32⟩
  | 35 => ⟨S128x128, .f32⟩
  | 36 => ⟨S128x128, .i1⟩
  | 37 => ⟨S4x1x1, .f32⟩
  | 38 => ⟨S_, .f32⟩
  | 39 => ⟨S128x128, .f32⟩
  | 40 => ⟨S128x128, .f32⟩
  | 41 => ⟨S1x128x128, .f32⟩
  | 42 => ⟨S4x128x128, .f32⟩
  | 43 => ⟨S4x128x128, .f32⟩
  | 44 => ⟨S4x128x128, .f32⟩
  | 45 => ⟨S4x128x128, .f32⟩
  | 46 => ⟨S_, .f32⟩
  | 47 => ⟨S_, .f32⟩
  | 48 => ⟨S4x128x128, .i1⟩
  | 49 => ⟨S4x128x128, .f32⟩
  | 50 => ⟨S4x128x128, .f32⟩
  | 51 => ⟨S2x4x64x128x128, .f32⟩
  | 52 => ⟨S4x1x128x128, .f32⟩
  | 53 => ⟨S1x4x1x128x128, .f32⟩
  | 54 => ⟨S2x4x64x128x128, .f32⟩
  | 55 => ⟨S2x4x64x128x128, .f32⟩
  | 56 => ⟨S2x4x64x128x512, .f32⟩
  | 57 => ⟨S4x1, .f32⟩
  | 58 => ⟨S_, .f32⟩
  | 59 => ⟨S128, .f32⟩
  | 60 => ⟨S128, .f32⟩
  | 61 => ⟨S1x128, .f32⟩
  | 62 => ⟨S4x128, .f32⟩
  | 63 => ⟨S4x128, .f32⟩
  | 64 => ⟨S4x128, .f32⟩
  | 65 => ⟨S4x128, .f32⟩
  | 66 => ⟨S1x4x128x1, .f32⟩
  | 67 => ⟨S4x1, .f32⟩
  | 68 => ⟨S_, .f32⟩
  | 69 => ⟨S128, .f32⟩
  | 70 => ⟨S128, .f32⟩
  | 71 => ⟨S1x128, .f32⟩
  | 72 => ⟨S4x128, .f32⟩
  | 73 => ⟨S4x128, .f32⟩
  | 74 => ⟨S4x128, .f32⟩
  | 75 => ⟨S4x128, .f32⟩
  | 76 => ⟨S1x4x128x1, .f32⟩
  | 77 => ⟨S_, .f32⟩
  | 78 => ⟨S4, .f32⟩
  | 79 => ⟨S4, .f32⟩
  | 80 => ⟨S4, .f32⟩
  | 81 => ⟨S1x4x1x1, .f32⟩
  | 82 => ⟨S_, .f32⟩
  | 83 => ⟨S2x4x256x512, .f32⟩
  | 84 => ⟨S64x2x4x128x256, .f32⟩
  | 85 => ⟨S64x2x4x128x256, .f32⟩
  | 86 => ⟨S64x2x4x128x512, .f32⟩
  | 87 => ⟨S_, .f32⟩
  | 88 => ⟨S64x2x4x128x512, .f32⟩
  | 89 => ⟨S_, .i32⟩
  | 90 => ⟨S64x2x4x128x256, .f32⟩
  | 91 => ⟨S64x2x4x128x256, .f32⟩
  | 92 => ⟨S64x2x4x128x512, .f32⟩
  | 93 => ⟨S1x4x128x1, .f32⟩
  | 94 => ⟨S1x4x1x1, .f32⟩
  | 95 => ⟨S1x4x128x1, .f32⟩
  | 96 => ⟨S_, .i32⟩
  | 97 => ⟨S2x4x256x512, .f32⟩
  | 98 => ⟨S64x2x4x128x512, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S1x2x4x128x256, .f32⟩
  | 106 => ⟨S2x4x128x256, .f32⟩
  | 107 => ⟨S_, .i32⟩
  | 108 => ⟨S_, .i32⟩
  | 109 => ⟨S_, .i32⟩
  | 110 => ⟨S_, .i32⟩
  | 111 => ⟨S1x2x4x128x256, .f32⟩
  | 112 => ⟨S2x4x128x256, .f32⟩
  | 113 => ⟨S_, .i32⟩
  | 114 => ⟨S_, .i32⟩
  | 115 => ⟨S_, .i32⟩
  | 116 => ⟨S_, .i32⟩
  | 117 => ⟨S1x2x4x128x512, .f32⟩
  | 118 => ⟨S2x4x128x512, .f32⟩
  | 119 => ⟨S2x4x128x512, .f32⟩
  | 120 => ⟨S2x4x128x512, .f32⟩
  | 121 => ⟨S2x4x128x512, .f32⟩
  | 122 => ⟨S2x4x256x512, .f32⟩
  | 123 => ⟨S2x4x256x512, .f32⟩
  | 124 => ⟨S2x4x128x256, .f32⟩
  | 125 => ⟨S2x4x128x256, .f32⟩
  | 126 => ⟨S2x4x256x512, .f32⟩
  | 127 => ⟨S2x4x256x512, .f32⟩
  | _ => ⟨S16384x6144, .bf16⟩

abbrev hbmTy0_1 (i : Nat) : BufTy := match i % 128 with
  | 0 => ⟨S1x2x4x128x512, .f32⟩
  | 1 => ⟨S_, .i32⟩
  | 2 => ⟨S_, .i32⟩
  | 3 => ⟨S_, .i32⟩
  | 4 => ⟨S_, .i32⟩
  | 5 => ⟨S64x2x4x128x512, .f32⟩
  | 6 => ⟨S_, .i32⟩
  | 7 => ⟨S_, .i32⟩
  | 8 => ⟨S2x4x64x128x512, .f32⟩
  | 9 => ⟨S2x4x64x128x512, .f32⟩
  | 10 => ⟨S2x4x8192x512, .f32⟩
  | 11 => ⟨S_, .f32⟩
  | 12 => ⟨S2x4x8192, .f32⟩
  | 13 => ⟨S2x4x8192x1, .f32⟩
  | 14 => ⟨S_, .f32⟩
  | 15 => ⟨S2x4x8192x1, .f32⟩
  | 16 => ⟨S2x4x8192x1, .f32⟩
  | 17 => ⟨S2x4x8192x512, .f32⟩
  | 18 => ⟨S2x4x8192x512, .f32⟩
  | 19 => ⟨S2x4x8192x512, .f32⟩
  | 20 => ⟨S_, .f32⟩
  | 21 => ⟨S2x4x8192, .f32⟩
  | 22 => ⟨S2x4x8192x1, .f32⟩
  | 23 => ⟨S_, .f32⟩
  | 24 => ⟨S2x4x8192x1, .f32⟩
  | 25 => ⟨S2x4x8192x1, .f32⟩
  | 26 => ⟨S2x4x8192x512, .f32⟩
  | 27 => ⟨S2x4x8192x512, .f32⟩
  | 28 => ⟨S_, .f32⟩
  | 29 => ⟨S2x4x8192x1, .f32⟩
  | 30 => ⟨S2x4x8192x1, .f32⟩
  | 31 => ⟨S2x4x8192x1, .f32⟩
  | 32 => ⟨S2x4x8192x512, .f32⟩
  | 33 => ⟨S2x4x8192x512, .f32⟩
  | 34 => ⟨S2x8192x4x512, .f32⟩
  | 35 => ⟨S2x8192x2048, .f32⟩
  | 36 => ⟨S2x8192x2048, .f32⟩
  | 37 => ⟨S2x8192x2048, .f32⟩
  | 38 => ⟨S_, .f32⟩
  | 39 => ⟨S2x8192x2048, .f32⟩
  | 40 => ⟨S2x8192x2048, .f32⟩
  | 41 => ⟨S_, .f32⟩
  | 42 => ⟨S2x8192x2048, .f32⟩
  | 43 => ⟨S2x8192x2048, .f32⟩
  | 44 => ⟨S2x8192x2048, .f32⟩
  | 45 => ⟨S2x8192x2048, .f32⟩
  | 46 => ⟨S2x8192x2048, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_2 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_3 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_9 : Ref sig .tc := ⟨.hbm, 87, rfl⟩
abbrev main_v73 : Ref sig .tc := ⟨.hbm, 88, rfl⟩
abbrev main_c : Ref sig .tc := ⟨.hbm, 89, rfl⟩
abbrev main_v74_0 : Ref sig .tc := ⟨.hbm, 90, rfl⟩
abbrev main_v74_1 : Ref sig .tc := ⟨.hbm, 91, rfl⟩
abbrev main_v74_2 : Ref sig .tc := ⟨.hbm, 92, rfl⟩
abbrev main_v74_3 : Ref sig .tc := ⟨.hbm, 93, rfl⟩
abbrev main_v74_4 : Ref sig .tc := ⟨.hbm, 94, rfl⟩
abbrev main_v74_5 : Ref sig .tc := ⟨.hbm, 95, rfl⟩
abbrev main_v74_6 : Ref sig .tc := ⟨.hbm, 96, rfl⟩
abbrev main_v74_7 : Ref sig .tc := ⟨.hbm, 97, rfl⟩
abbrev main_v74_8 : Ref sig .tc := ⟨.hbm, 98, rfl⟩
abbrev main_while0c_c_23 : Ref sig .tc := ⟨.hbm, 99, rfl⟩
abbrev main_while0c_v101 : Ref sig .tc := ⟨.hbm, 100, rfl⟩
abbrev main_while0b_call1_c : Ref sig .tc := ⟨.hbm, 101, rfl⟩
abbrev main_while0b_call1_c_0 : Ref sig .tc := ⟨.hbm, 102, rfl⟩
abbrev main_while0b_call1_c_1 : Ref sig .tc := ⟨.hbm, 103, rfl⟩
abbrev main_while0b_call1_c_2 : Ref sig .tc := ⟨.hbm, 104, rfl⟩
abbrev main_while0b_call1_v0 : Ref sig .tc := ⟨.hbm, 105, rfl⟩
abbrev main_while0b_v101 : Ref sig .tc := ⟨.hbm, 106, rfl⟩
abbrev main_while0b_call2_c : Ref sig .tc := ⟨.hbm, 107, rfl⟩
abbrev main_while0b_call2_c_0 : Ref sig .tc := ⟨.hbm, 108, rfl⟩
abbrev main_while0b_call2_c_1 : Ref sig .tc := ⟨.hbm, 109, rfl⟩
abbrev main_while0b_call2_c_2 : Ref sig .tc := ⟨.hbm, 110, rfl⟩
abbrev main_while0b_call2_v0 : Ref sig .tc := ⟨.hbm, 111, rfl⟩
abbrev main_while0b_v102 : Ref sig .tc := ⟨.hbm, 112, rfl⟩
abbrev main_while0b_call3_c : Ref sig .tc := ⟨.hbm, 113, rfl⟩
abbrev main_while0b_call3_c_0 : Ref sig .tc := ⟨.hbm, 114, rfl⟩
abbrev main_while0b_call3_c_1 : Ref sig .tc := ⟨.hbm, 115, rfl⟩
abbrev main_while0b_call3_c_2 : Ref sig .tc := ⟨.hbm, 116, rfl⟩
abbrev main_while0b_call3_v0 : Ref sig .tc := ⟨.hbm, 117, rfl⟩
abbrev main_while0b_v103 : Ref sig .tc := ⟨.hbm, 118, rfl⟩
abbrev main_while0b_v104 : Ref sig .tc := ⟨.hbm, 119, rfl⟩
abbrev main_while0b_v105 : Ref sig .tc := ⟨.hbm, 120, rfl⟩
abbrev main_while0b_v106 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_v110 : Ref sig .tc := ⟨.hbm, 125, rfl⟩
abbrev main_while0b_v111 : Ref sig .tc := ⟨.hbm, 126, rfl⟩
abbrev main_while0b_v112 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_call4_c_1 : Ref sig .tc := ⟨.hbm, 131, rfl⟩
abbrev main_while0b_call4_c_2 : Ref sig .tc := ⟨.hbm, 132, rfl⟩
abbrev main_while0b_v113 : Ref sig .tc := ⟨.hbm, 133, rfl⟩
abbrev main_while0b_c_23 : Ref sig .tc := ⟨.hbm, 134, rfl⟩
abbrev main_while0b_v114 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_cst_10 : Ref sig .tc := ⟨.hbm, 139, rfl⟩
abbrev main_v78 : Ref sig .tc := ⟨.hbm, 140, rfl⟩
abbrev main_v79 : Ref sig .tc := ⟨.hbm, 141, rfl⟩
abbrev main_cst_11 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_cst_12 : Ref sig .tc := ⟨.hbm, 148, rfl⟩
abbrev main_v85 : Ref sig .tc := ⟨.hbm, 149, rfl⟩
abbrev main_v86 : Ref sig .tc := ⟨.hbm, 150, rfl⟩
abbrev main_cst_13 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_cst_14 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_call5_v0 : Ref sig .tc := ⟨.hbm, 164, rfl⟩
abbrev main_call5_v1 : Ref sig .tc := ⟨.hbm, 165, rfl⟩
abbrev main_call5_cst : Ref sig .tc := ⟨.hbm, 166, rfl⟩
abbrev main_call5_v2 : Ref sig .tc := ⟨.hbm, 167, rfl⟩
abbrev main_call5_v3 : Ref sig .tc := ⟨.hbm, 168, rfl⟩
abbrev main_call5_cst_0 : Ref sig .tc := ⟨.hbm, 169, rfl⟩
abbrev main_call5_v4 : Ref sig .tc := ⟨.hbm, 170, rfl⟩
abbrev main_call5_v5 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩

abbrev nD : Nat := 1
abbrev τ : Topo := Topo.v7x

variable {F : FTy → Type} [FloatOps F]

abbrev main_while0_count : Scf.Loop 32 := ⟨0#32, 64#32, 1#32⟩
-- ==== OddOut.lean ====
abbrev S16384x1024 : Shape := ⟨2, ![16384, 1024]⟩
abbrev S16384x2048 : Shape := ⟨2, ![16384, 2048]⟩
abbrev S1x2048x1024 : Shape := ⟨3, ![1, 2048, 1024]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S1x2048x1024, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1x2048x1024, .f32⟩
  | .local _ .vmem, ⟨5, _⟩ => ⟨S1024x1024, .f32⟩
  | .local _ .vmem, ⟨6, _⟩ => ⟨S1024x1024, .f32⟩
  | .local _ .vmem, ⟨7, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OddOutRefIdeal.lean ====
abbrev S16384x1024 : Shape := ⟨2, ![16384, 1024]⟩
abbrev S16384x2048 : Shape := ⟨2, ![16384, 2048]⟩
abbrev S1x2048x1024 : Shape := ⟨3, ![1, 2048, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S1x2048x1024, .f32⟩
  | .hbm, ⟨3, _⟩ => ⟨S16384x2048, .f32⟩
  | .hbm, ⟨4, _⟩ => ⟨S2048x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OddIn.lean ====
abbrev S16384x1024 : Shape := ⟨2, ![16384, 1024]⟩
abbrev S1024 : Shape := ⟨1, ![1024]⟩
abbrev S1x1024x6144 : Shape := ⟨3, ![1, 1024, 6144]⟩
abbrev S_ : Shape := ⟨0, ![]⟩
abbrev S127 : Shape := ⟨1, ![127]⟩
abbrev S1 : Shape := ⟨1, ![1]⟩
abbrev S128 : Shape := ⟨1, ![128]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1x1024 : Shape := ⟨2, ![1, 1024]⟩
abbrev S16384x6144 : Shape := ⟨2, ![16384, 6144]⟩
abbrev S1024x1024 : Shape := ⟨2, ![1024, 1024]⟩
abbrev S1x1024x2048 : Shape := ⟨3, ![1, 1024, 2048]⟩
abbrev S1024x128 : Shape := ⟨2, ![1024, 128]⟩
abbrev S1024x2048 : Shape := ⟨2, ![1024, 2048]⟩
abbrev S1024x1 : Shape := ⟨2, ![1024, 1]⟩

abbrev nBuf : Space → Nat
  | .hbm => 40
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024x6144, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S127, .f32⟩
  | .hbm, ⟨11, _⟩ => ⟨S_, .f32⟩
  | .hbm, ⟨12, _⟩ => ⟨S127, .f32⟩
  | .hbm, ⟨13, _⟩ => ⟨S127, .f32⟩
  | .hbm, ⟨14, _⟩ => ⟨S1, .f32⟩
  | .hbm, ⟨15, _⟩ => ⟨S_, .f32⟩
  | .hbm, ⟨16, _⟩ => ⟨S127, .f32⟩
  | .hbm, ⟨17, _⟩ => ⟨S127, .f32⟩
  | .hbm, ⟨18, _⟩ => ⟨S127, .f32⟩
  | .hbm, ⟨19, _⟩ => ⟨S127, .f32⟩
  | .hbm, ⟨20, _⟩ => ⟨S1, .f32⟩
  | .hbm, ⟨21, _⟩ => ⟨S127, .f32⟩
  | .hbm, ⟨22, _⟩ => ⟨S127, .f32⟩
  | .hbm, ⟨23, _⟩ => ⟨S127, .f32⟩
  | .hbm, ⟨24, _⟩ => ⟨S1, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S8192, .f32⟩
  | .hbm, ⟨31, _⟩ => ⟨S8192x1, .f32⟩
  | .hbm, ⟨32, _⟩ => ⟨S1x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S1x1024, .f32⟩
  | .hbm, ⟨39, _⟩ => ⟨S16384x6144, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2048, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_v1 : Ref sig .tc := ⟨.hbm, 26, rfl⟩
abbrev main_cst_1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![3, 16], ![false, false]⟩

def k0_cond2 (i : grid0.Coords) : BitVec 1 :=
  let arg0 : BitVec 32 := BitVec.ofNat 32 (i 0).val
  let c0_i32_9 : BitVec 32 := 0#32
  let v21 : BitVec 1 := Scalar.cmpi .eq arg0 c0_i32_9
  let v22 : BitVec 32 := Scalar.extui v21
  let c0_i32_10 : BitVec 32 := 0#32
  let v23 : BitVec 1 := Scalar.cmpi .ne v22 c0_i32_10
  v23

def k0_cond3 (i : grid0.Coords) : BitVec 1 :=
  let arg0 : BitVec 32 := BitVec.ofNat 32 (i 0).val
  let c0_i32_11 : BitVec 32 := 0#32
  let v24 : BitVec 1 := Scalar.cmpi .sgt arg0 c0_i32_11
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OddInRefIdeal.lean ====
abbrev S16384x1024 : Shape := ⟨2, ![16384, 1024]⟩
abbrev S1024 : Shape := ⟨1, ![1024]⟩
abbrev S1x1024x6144 : Shape := ⟨3, ![1, 1024, 6144]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S127 : Shape := ⟨1, ![127]⟩
abbrev S1 : Shape := ⟨1, ![1]⟩
abbrev S128 : Shape := ⟨1, ![128]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1024x6144 : Shape := ⟨2, ![1024, 6144]⟩
abbrev S2x8192x6144 : Shape := ⟨3, ![2, 8192, 6144]⟩
abbrev S2x8192x2048 : Shape := ⟨3, ![2, 8192, 2048]⟩
abbrev S2x8192x4x256 : Shape := ⟨4, ![2, 8192, 4, 256]⟩
abbrev S2x4x8192x256 : Shape := ⟨4, ![2, 4, 8192, 256]⟩
abbrev S2x4x8192x128 : Shape := ⟨4, ![2, 4, 8192, 128]⟩
abbrev S1x1x8192x128 : Shape := ⟨4, ![1, 1, 8192, 128]⟩
abbrev S16384x6144 : Shape := ⟨2, ![16384, 6144]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024x6144, .f32⟩
  | .hbm, ⟨3, _⟩ => ⟨S2x8192x1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S127, .f32⟩
  | .hbm, ⟨28, _⟩ => ⟨S_, .f32⟩
  | .hbm, ⟨29, _⟩ => ⟨S127, .f32⟩
  | .hbm, ⟨30, _⟩ => ⟨S127, .f32⟩
  | .hbm, ⟨31, _⟩ => ⟨S1, .f32⟩
  | .hbm, ⟨32, _⟩ => ⟨S_, .f32⟩
  | .hbm, ⟨33, _⟩ => ⟨S127, .f32⟩
  | .hbm, ⟨34, _⟩ => ⟨S127, .f32⟩
  | .hbm, ⟨35, _⟩ => ⟨S127, .f32⟩
  | .hbm, ⟨36, _⟩ => ⟨S127, .f32⟩
  | .hbm, ⟨37, _⟩ => ⟨S1, .f32⟩
  | .hbm, ⟨38, _⟩ => ⟨S127, .f32⟩
  | .hbm, ⟨39, _⟩ => ⟨S127, .f32⟩
  | .hbm, ⟨40, _⟩ => ⟨S127, .f32⟩
  | .hbm, ⟨41, _⟩ => ⟨S1, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S8192, .f32⟩
  | .hbm, ⟨48, _⟩ => ⟨S8192x1, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S1024x6144, .f32⟩
  | .hbm, ⟨56, _⟩ => ⟨S2x8192x6144, .f32⟩
  | .hbm, ⟨57, _⟩ => ⟨S2x8192x1024, .f32⟩
  | .hbm, ⟨58, _⟩ => ⟨S2x8192x1024, .f32⟩
  | .hbm, ⟨59, _⟩ => ⟨S2x8192x2048, .f32⟩
  | .hbm, ⟨60, _⟩ => ⟨S2x8192x2048, .f32⟩
  | .hbm, ⟨61, _⟩ => ⟨S2x8192x4x256, .f32⟩
  | .hbm, ⟨62, _⟩ => ⟨S2x4x8192x256, .f32⟩
  | .hbm, ⟨63, _⟩ => ⟨S2x4x8192x128, .f32⟩
  | .hbm, ⟨64, _⟩ => ⟨S2x4x8192x128, .f32⟩
  | .hbm, ⟨65, _⟩ => ⟨S1x1x8192x128, .f32⟩
  | .hbm, ⟨66, _⟩ => ⟨S2x4x8192x128, .f32⟩
  | .hbm, ⟨67, _⟩ => ⟨S2x4x8192x128, .f32⟩
  | .hbm, ⟨68, _⟩ => ⟨S1x1x8192x128, .f32⟩
  | .hbm, ⟨69, _⟩ => ⟨S2x4x8192x128, .f32⟩
  | .hbm, ⟨70, _⟩ => ⟨S2x4x8192x128, .f32⟩
  | .hbm, ⟨71, _⟩ => ⟨S2x4x8192x128, .f32⟩
  | .hbm, ⟨72, _⟩ => ⟨S1x1x8192x128, .f32⟩
  | .hbm, ⟨73, _⟩ => ⟨S2x4x8192x128, .f32⟩
  | .hbm, ⟨74, _⟩ => ⟨S2x4x8192x128, .f32⟩
  | .hbm, ⟨75, _⟩ => ⟨S1x1x8192x128, .f32⟩
  | .hbm, ⟨76, _⟩ => ⟨S2x4x8192x128, .f32⟩
  | .hbm, ⟨77, _⟩ => ⟨S2x4x8192x128, .f32⟩
  | .hbm, ⟨78, _⟩ => ⟨S2x4x8192x128, .f32⟩
  | .hbm, ⟨79, _⟩ => ⟨S2x4x8192x256, .f32⟩
  | .hbm, ⟨80, _⟩ => ⟨S2x8192x4x256, .f32⟩
  | .hbm, ⟨81, _⟩ => ⟨S2x4x8192x256, .f32⟩
  | .hbm, ⟨82, _⟩ => ⟨S2x4x8192x128, .f32⟩
  | .hbm, ⟨83, _⟩ => ⟨S2x4x8192x128, .f32⟩
  | .hbm, ⟨84, _⟩ => ⟨S1x1x8192x128, .f32⟩
  | .hbm, ⟨85, _⟩ => ⟨S2x4x8192x128, .f32⟩
  | .hbm, ⟨86, _⟩ => ⟨S2x4x8192x128, .f32⟩
  | .hbm, ⟨87, _⟩ => ⟨S1x1x8192x128, .f32⟩
  | .hbm, ⟨88, _⟩ => ⟨S2x4x8192x128, .f32⟩
  | .hbm, ⟨89, _⟩ => ⟨S2x4x8192x128, .f32⟩
  | .hbm, ⟨90, _⟩ => ⟨S2x4x8192x128, .f32⟩
  | .hbm, ⟨91, _⟩ => ⟨S1x1x8192x128, .f32⟩
  | .hbm, ⟨92, _⟩ => ⟨S2x4x8192x128, .f32⟩
  | .hbm, ⟨93, _⟩ => ⟨S2x4x8192x128, .f32⟩
  | .hbm, ⟨94, _⟩ => ⟨S1x1x8192x128, .f32⟩
  | .hbm, ⟨95, _⟩ => ⟨S2x4x8192x128, .f32⟩
  | .hbm, ⟨96, _⟩ => ⟨S2x4x8192x128, .f32⟩
  | .hbm, ⟨97, _⟩ => ⟨S2x4x8192x128, .f32⟩
  | .hbm, ⟨98, _⟩ => ⟨S2x4x8192x256, .f32⟩
  | .hbm, ⟨99, _⟩ => ⟨S_, .f32⟩
  | .hbm, ⟨100, _⟩ => ⟨S2x4x8192x256, .f32⟩
  | .hbm, ⟨101, _⟩ => ⟨S2x4x8192x256, .f32⟩
  | .hbm, ⟨102, _⟩ => ⟨S2x8192x4x256, .f32⟩
  | .hbm, ⟨103, _⟩ => ⟨S2x8192x1024, .f32⟩
  | .hbm, ⟨104, _⟩ => ⟨S2x8192x4x256, .f32⟩
  | .hbm, ⟨105, _⟩ => ⟨S2x8192x1024, .f32⟩
  | .hbm, ⟨106, _⟩ => ⟨S2x8192x6144, .f32⟩
  | .hbm, ⟨107, _⟩ => ⟨S16384x6144, .f32⟩
  | .hbm, ⟨108, _⟩ => ⟨S16384x6144, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_cst : Ref sig .tc := ⟨.hbm, 25, rfl⟩
abbrev main_call0_v3 : Ref sig .tc := ⟨.hbm, 26, rfl⟩
abbrev main_call0_v4 : Ref sig .tc := ⟨.hbm, 27, rfl⟩
abbrev main_call0_cst_0 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_v14 : Ref sig .tc := ⟨.hbm, 42, rfl⟩
abbrev main_v15 : Ref sig .tc := ⟨.hbm, 43, rfl⟩
abbrev main_cst_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_5 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== EvenIn.lean ====
abbrev S16384x1024 : Shape := ⟨2, ![16384, 1024]⟩
abbrev S1024 : Shape := ⟨1, ![1024]⟩
abbrev S1x1024x2560 : Shape := ⟨3, ![1, 1024, 2560]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S12x16384x128 : Shape := ⟨3, ![12, 16384, 128]⟩
abbrev S512x1024 : Shape := ⟨2, ![512, 1024]⟩
abbrev S512x128 : Shape := ⟨2, ![512, 128]⟩
abbrev S12x512x128 : Shape := ⟨3, ![12, 512, 128]⟩
abbrev S1024x2560 : Shape := ⟨2, ![1024, 2560]⟩
abbrev S512 : Shape := ⟨1, ![512]⟩
abbrev S512x1 : Shape := ⟨2, ![512, 1]⟩
abbrev S512x2560 : Shape := ⟨2, ![512, 2560]⟩
abbrev S1x512x128 : Shape := ⟨3, ![1, 512, 128]⟩

abbrev nBuf : Space → Nat
  | .hbm => 47
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024x2560, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8192, .f32⟩
  | .hbm, ⟨18, _⟩ => ⟨S8192x1, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S_, .f32⟩
  | .hbm, ⟨26, _⟩ => ⟨S8192x48, .f32⟩
  | .hbm, ⟨27, _⟩ => ⟨S_, .f32⟩
  | .hbm, ⟨28, _⟩ => ⟨S8192x48, .f32⟩
  | .hbm, ⟨29, _⟩ => ⟨S_, .f32⟩
  | .hbm, ⟨30, _⟩ => ⟨S8192x8, .f32⟩
  | .hbm, ⟨31, _⟩ => ⟨S8192x64, .f32⟩
  | .hbm, ⟨32, _⟩ => ⟨S8192x8, .f32⟩
  | .hbm, ⟨33, _⟩ => ⟨S8192x64, .f32⟩
  | .hbm, ⟨34, _⟩ => ⟨S8192x64, .f32⟩
  | .hbm, ⟨35, _⟩ => ⟨S1x8192x1x64, .f32⟩
  | .hbm, ⟨36, _⟩ => ⟨S1x8192x2x64, .f32⟩
  | .hbm, ⟨37, _⟩ => ⟨S8192x128, .f32⟩
  | .hbm, ⟨38, _⟩ => ⟨S1x8192x1x64, .f32⟩
  | .hbm, ⟨39, _⟩ => ⟨S1x8192x2x64, .f32⟩
  | .hbm, ⟨40, _⟩ => ⟨S8192x128, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S1x1024, .f32⟩
  | .hbm, ⟨45, _⟩ => ⟨S12x16384x128, .f32⟩
  | .hbm, ⟨46, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2560, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S12x512x128, .f32⟩
  | .local _ .vmem, ⟨11, _⟩ => ⟨S12x512x128, .f32⟩
  | .local _ .vmem, ⟨12, _⟩ => ⟨S512x1024, .bf16⟩
  | .local _ .vmem, ⟨13, _⟩ => ⟨S512x1024, .bf16⟩
  | .local _ .vmem, ⟨14, _⟩ => ⟨S1024x2560, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S12x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenInRefIdeal.lean ====
abbrev S16384x1024 : Shape := ⟨2, ![16384, 1024]⟩
abbrev S1024 : Shape := ⟨1, ![1024]⟩
abbrev S1x1024x2560 : Shape := ⟨3, ![1, 1024, 2560]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S1024x2560 : Shape := ⟨2, ![1024, 2560]⟩
abbrev S2x8192x2560 : Shape := ⟨3, ![2, 8192, 2560]⟩
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S2x8x8192x16 : Shape := ⟨4, ![2, 8, 8192, 16]⟩
abbrev S2x8x8192x8 : Shape := ⟨4, ![2, 8, 8192, 8]⟩
abbrev S1x1x8192x8 : Shape := ⟨4, ![1, 1, 8192, 8]⟩
abbrev S2x8x8192x48 : Shape := ⟨4, ![2, 8, 8192, 48]⟩
abbrev S2x4x2x8192x64 : Shape := ⟨5, ![2, 4, 2, 8192, 64]⟩
abbrev S4x2x8192x2x64 : Shape := ⟨5, ![4, 2, 8192, 2, 64]⟩
abbrev S4x16384x128 : Shape := ⟨3, ![4, 16384, 128]⟩
abbrev S12x16384x128 : Shape := ⟨3, ![12, 16384, 128]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024x2560, .f32⟩
  | .hbm, ⟨3, _⟩ => ⟨S2x8192x1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8192, .f32⟩
  | .hbm, ⟨35, _⟩ => ⟨S8192x1, .f32⟩
  | .hbm, ⟨36, _⟩ => ⟨S1x8, .f32⟩
  | .hbm, ⟨37, _⟩ => ⟨S8192x8, .f32⟩
  | .hbm, ⟨38, _⟩ => ⟨S8192x8, .f32⟩
  | .hbm, ⟨39, _⟩ => ⟨S8192x8, .f32⟩
  | .hbm, ⟨40, _⟩ => ⟨S8192x8, .f32⟩
  | .hbm, ⟨41, _⟩ => ⟨S8192x8, .f32⟩
  | .hbm, ⟨42, _⟩ => ⟨S1024x2560, .f32⟩
  | .hbm, ⟨43, _⟩ => ⟨S2x8192x2560, .f32⟩
  | .hbm, ⟨44, _⟩ => ⟨S2x8192x512, .f32⟩
  | .hbm, ⟨45, _⟩ => ⟨S2x8192x512, .f32⟩
  | .hbm, ⟨46, _⟩ => ⟨S2x8192x512, .f32⟩
  | .hbm, ⟨47, _⟩ => ⟨S2x8192x1024, .f32⟩
  | .hbm, ⟨48, _⟩ => ⟨S2x8192x8x64, .f32⟩
  | .hbm, ⟨49, _⟩ => ⟨S2x8x8192x64, .f32⟩
  | .hbm, ⟨50, _⟩ => ⟨S2x8x8192x16, .f32⟩
  | .hbm, ⟨51, _⟩ => ⟨S2x8x8192x8, .f32⟩
  | .hbm, ⟨52, _⟩ => ⟨S2x8x8192x8, .f32⟩
  | .hbm, ⟨53, _⟩ => ⟨S1x1x8192x8, .f32⟩
  | .hbm, ⟨54, _⟩ => ⟨S2x8x8192x8, .f32⟩
  | .hbm, ⟨55, _⟩ => ⟨S2x8x8192x8, .f32⟩
  | .hbm, ⟨56, _⟩ => ⟨S1x1x8192x8, .f32⟩
  | .hbm, ⟨57, _⟩ => ⟨S2x8x8192x8, .f32⟩
  | .hbm, ⟨58, _⟩ => ⟨S2x8x8192x8, .f32⟩
  | .hbm, ⟨59, _⟩ => ⟨S2x8x8192x8, .f32⟩
  | .hbm, ⟨60, _⟩ => ⟨S1x1x8192x8, .f32⟩
  | .hbm, ⟨61, _⟩ => ⟨S2x8x8192x8, .f32⟩
  | .hbm, ⟨62, _⟩ => ⟨S2x8x8192x8, .f32⟩
  | .hbm, ⟨63, _⟩ => ⟨S1x1x8192x8, .f32⟩
  | .hbm, ⟨64, _⟩ => ⟨S2x8x8192x8, .f32⟩
  | .hbm, ⟨65, _⟩ => ⟨S2x8x8192x8, .f32⟩
  | .hbm, ⟨66, _⟩ => ⟨S2x8x8192x8, .f32⟩
  | .hbm, ⟨67, _⟩ => ⟨S2x8x8192x16, .f32⟩
  | .hbm, ⟨68, _⟩ => ⟨S2x8x8192x48, .f32⟩
  | .hbm, ⟨69, _⟩ => ⟨S2x8x8192x64, .f32⟩
  | .hbm, ⟨70, _⟩ => ⟨S_, .f32⟩
  | .hbm, ⟨71, _⟩ => ⟨S2x8x8192x64, .f32⟩
  | .hbm, ⟨72, _⟩ => ⟨S2x8x8192x64, .f32⟩
  | .hbm, ⟨73, _⟩ => ⟨S2x8192x8x64, .f32⟩
  | .hbm, ⟨74, _⟩ => ⟨S2x8x8192x64, .f32⟩
  | .hbm, ⟨75, _⟩ => ⟨S2x8x8192x16, .f32⟩
  | .hbm, ⟨76, _⟩ => ⟨S2x8x8192x8, .f32⟩
  | .hbm, ⟨77, _⟩ => ⟨S2x8x8192x8, .f32⟩
  | .hbm, ⟨78, _⟩ => ⟨S1x1x8192x8, .f32⟩
  | .hbm, ⟨79, _⟩ => ⟨S2x8x8192x8, .f32⟩
  | .hbm, ⟨80, _⟩ => ⟨S2x8x8192x8, .f32⟩
  | .hbm, ⟨81, _⟩ => ⟨S1x1x8192x8, .f32⟩
  | .hbm, ⟨82, _⟩ => ⟨S2x8x8192x8, .f32⟩
  | .hbm, ⟨83, _⟩ => ⟨S2x8x8192x8, .f32⟩
  | .hbm, ⟨84, _⟩ => ⟨S2x8x8192x8, .f32⟩
  | .hbm, ⟨85, _⟩ => ⟨S1x1x8192x8, .f32⟩
  | .hbm, ⟨86, _⟩ => ⟨S2x8x8192x8, .f32⟩
  | .hbm, ⟨87, _⟩ => ⟨S2x8x8192x8, .f32⟩
  | .hbm, ⟨88, _⟩ => ⟨S1x1x8192x8, .f32⟩
  | .hbm, ⟨89, _⟩ => ⟨S2x8x8192x8, .f32⟩
  | .hbm, ⟨90, _⟩ => ⟨S2x8x8192x8, .f32⟩
  | .hbm, ⟨91, _⟩ => ⟨S2x8x8192x8, .f32⟩
  | .hbm, ⟨92, _⟩ => ⟨S2x8x8192x16, .f32⟩
  | .hbm, ⟨93, _⟩ => ⟨S2x8x8192x48, .f32⟩
  | .hbm, ⟨94, _⟩ => ⟨S2x8x8192x64, .f32⟩
  | .hbm, ⟨95, _⟩ => ⟨S2x4x2x8192x64, .f32⟩
  | .hbm, ⟨96, _⟩ => ⟨S4x2x8192x2x64, .f32⟩
  | .hbm, ⟨97, _⟩ => ⟨S4x16384x128, .f32⟩
  | .hbm, ⟨98, _⟩ => ⟨S2x4x2x8192x64, .f32⟩
  | .hbm, ⟨99, _⟩ => ⟨S4x2x8192x2x64, .f32⟩
  | .hbm, ⟨100, _⟩ => ⟨S4x16384x128, .f32⟩
  | .hbm, ⟨101, _⟩ => ⟨S2x8192x8x64, .f32⟩
  | .hbm, ⟨102, _⟩ => ⟨S2x8x8192x64, .f32⟩
  | .hbm, ⟨103, _⟩ => ⟨S2x4x2x8192x64, .f32⟩
  | .hbm, ⟨104, _⟩ => ⟨S4x2x8192x2x64, .f32⟩
  | .hbm, ⟨105, _⟩ => ⟨S4x16384x128, .f32⟩
  | .hbm, ⟨106, _⟩ => ⟨S12x16384x128, .f32⟩
  | .hbm, ⟨107, _⟩ => ⟨S16384x1024, .f32⟩
  | .hbm, ⟨108, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_6 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩

abbrev nD : Nat := 1
abbrev τ : Topo := Topo.v7x

variable {F : FTy → Type} [FloatOps F]
-- ==== EvenTail.lean ====
abbrev S16384x1024 : Shape := ⟨2, ![16384, 1024]⟩
abbrev S4x16384x128 : Shape := ⟨3, ![4, 16384, 128]⟩
abbrev S31x512 : Shape := ⟨2, ![31, 512]⟩
abbrev S512 : Shape := ⟨1, ![512]⟩
abbrev S1x1024x1024 : Shape := ⟨3, ![1, 1024, 1024]⟩
abbrev S_ : Shape := ⟨0, ![]⟩
abbrev S1x512 : Shape := ⟨2, ![1, 512]⟩
abbrev S32x512 : Shape := ⟨2, ![32, 512]⟩
abbrev S512x1024 : Shape := ⟨2, ![512, 1024]⟩
abbrev S4x512x128 : Shape := ⟨3, ![4, 512, 128]⟩
abbrev S512x512 : Shape := ⟨2, ![512, 512]⟩
abbrev S1024x1024 : Shape := ⟨2, ![1024, 1024]⟩
abbrev S544x512 : Shape := ⟨2, ![544, 512]⟩
abbrev S7x536x512 : Shape := ⟨3, ![7, 536, 512]⟩
abbrev S1x512x128 : Shape := ⟨3, ![1, 512, 128]⟩
abbrev S512x128 : Shape := ⟨2, ![512, 128]⟩
abbrev S536x512 : Shape := ⟨2, ![536, 512]⟩
abbrev S1x536x512 : Shape := ⟨3, ![1, 536, 512]⟩
abbrev S64x512 : Shape := ⟨2, ![64, 512]⟩
abbrev S1x64x512 : Shape := ⟨3, ![1, 64, 512]⟩
abbrev S64 : Shape := ⟨1, ![64]⟩
abbrev S64x1 : Shape := ⟨2, ![64, 1]⟩

abbrev nBuf : Space → Nat
  | .hbm => 15
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S4x16384x128, .bf16⟩
  | .hbm, ⟨2, _⟩ => ⟨S16384x1024, .bf16⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x1024x1024, .f32⟩
  | .hbm, ⟨8, _⟩ => ⟨S_, .f32⟩
  | .hbm, ⟨9, _⟩ => ⟨S1x512, .f32⟩
  | .hbm, ⟨10, _⟩ => ⟨S32x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S4x512x128, .bf16⟩
  | .local _ .vmem, ⟨3, _⟩ => ⟨S4x512x128, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x1024x1024, .f32⟩
  | .local _ .vmem, ⟨13, _⟩ => ⟨S512x1024, .f32⟩
  | .local _ .vmem, ⟨14, _⟩ => ⟨S512x1024, .f32⟩
  | .local _ .vmem, ⟨15, _⟩ => ⟨S1024x1024, .bf16⟩
  | .local _ .vmem, ⟨16, _⟩ => ⟨S544x512, .f32⟩
  | .local _ .vmem, ⟨17, _⟩ => ⟨S7x536x512, .f32⟩
  | .local _ .vmem, ⟨18, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== EvenTailRefIdeal.lean ====
abbrev S16384x1024 : Shape := ⟨2, ![16384, 1024]⟩
abbrev S4x16384x128 : Shape := ⟨3, ![4, 16384, 128]⟩
abbrev S31x512 : Shape := ⟨2, ![31, 512]⟩
abbrev S512 : Shape := ⟨1, ![512]⟩
abbrev S1x1024x1024 : Shape := ⟨3, ![1, 1024, 1024]⟩
abbrev S2x8192x1024 : Shape := ⟨3, ![2, 8192, 1024]⟩
abbrev S2x8192x512 : Shape := ⟨3, ![2, 8192, 512]⟩
abbrev S_ : Shape := ⟨0, ![]⟩
abbrev S2x8222x512 : Shape := ⟨3, ![2, 8222, 512]⟩
abbrev S1x512 : Shape := ⟨2, ![1, 512]⟩
abbrev S1x1x512 : Shape := ⟨3, ![1, 1, 512]⟩
abbrev S2x8192 : Shape := ⟨2, ![2, 8192]⟩
abbrev S2x8192x1 : Shape := ⟨3, ![2, 8192, 1]⟩
abbrev S16384x4x128 : Shape := ⟨3, ![16384, 4, 128]⟩
abbrev S1024x1024 : Shape := ⟨2, ![1024, 1024]⟩

abbrev nBuf : Space → Nat
  | .hbm => 292
  | .vmem => 0
  | .smem => 0
  | _ => 0

abbrev hbmTy0_0 (i : Nat) : BufTy := match i % 128 with
  | 0 => ⟨S16384x1024, .f32⟩
  | 1 => ⟨S4x16384x128, .bf16⟩
  | 2 => ⟨S16384x1024, .bf16⟩
  | 3 => ⟨S31x512, .f32⟩
  | 4 => ⟨S512, .f32⟩
  | 5 => ⟨S512, .f32⟩
  | 6 => ⟨S512, .f32⟩
  | 7 => ⟨S1x1024x1024, .f32⟩
  | 8 => ⟨S16384x1024, .f32⟩
  | 9 => ⟨S2x8192x1024, .f32⟩
  | 10 => ⟨S2x8192x512, .f32⟩
  | 11 => ⟨S2x8192x512, .f32⟩
  | 12 => ⟨S2x8192x512, .f32⟩
  | 13 => ⟨S2x8192x512, .f32⟩
  | 14 => ⟨S_, .f32⟩
  | 15 => ⟨S2x8192x512, .f32⟩
  | 16 => ⟨S2x8192x512, .f32⟩
  | 17 => ⟨S_, .f32⟩
  | 18 => ⟨S2x8192x512, .f32⟩
  | 19 => ⟨S2x8192x512, .f32⟩
  | 20 => ⟨S2x8192x512, .f32⟩
  | 21 => ⟨S_, .i32⟩
  | 22 => ⟨S_, .f32⟩
  | 23 => ⟨S2x8222x512, .f32⟩
  | 24 => ⟨S2x8192x512, .f32⟩
  | 25 => ⟨S1x512, .f32⟩
  | 26 => ⟨S512, .f32⟩
  | 27 => ⟨S1x1x512, .f32⟩
  | 28 => ⟨S2x8192x512, .f32⟩
  | 29 => ⟨S2x8192x512, .f32⟩
  | 30 => ⟨S_, .f32⟩
  | 31 => ⟨S2x8192x512, .f32⟩
  | 32 => ⟨S2x8192x512, .f32⟩
  | 33 => ⟨S2x8192x512, .f32⟩
  | 34 => ⟨S1x512, .f32⟩
  | 35 => ⟨S512, .f32⟩
  | 36 => ⟨S1x1x512, .f32⟩
  | 37 => ⟨S2x8192x512, .f32⟩
  | 38 => ⟨S2x8192x512, .f32⟩
  | 39 => ⟨S2x8192x512, .f32⟩
  | 40 => ⟨S2x8192x512, .f32⟩
  | 41 => ⟨S1x512, .f32⟩
  | 42 => ⟨S512, .f32⟩
  | 43 => ⟨S1x1x512, .f32⟩
  | 44 => ⟨S2x8192x512, .f32⟩
  | 45 => ⟨S2x8192x512, .f32⟩
  | 46 => ⟨S2x8192x512, .f32⟩
  | 47 => ⟨S2x8192x512, .f32⟩
  | 48 => ⟨S1x512, .f32⟩
  | 49 => ⟨S512, .f32⟩
  | 50 => ⟨S1x1x512, .f32⟩
  | 51 => ⟨S2x8192x512, .f32⟩
  | 52 => ⟨S2x8192x512, .f32⟩
  | 53 => ⟨S2x8192x512, .f32⟩
  | 54 => ⟨S2x8192x512, .f32⟩
  | 55 => ⟨S1x512, .f32⟩
  | 56 => ⟨S512, .f32⟩
  | 57 => ⟨S1x1x512, .f32⟩
  | 58 => ⟨S2x8192x512, .f32⟩
  | 59 => ⟨S2x8192x512, .f32⟩
  | 60 => ⟨S2x8192x512, .f32⟩
  | 61 => ⟨S2x8192x512, .f32⟩
  | 62 => ⟨S1x512, .f32⟩
  | 63 => ⟨S512, .f32⟩
  | 64 => ⟨S1x1x512, .f32⟩
  | 65 => ⟨S2x8192x512, .f32⟩
  | 66 => ⟨S2x8192x512, .f32⟩
  | 67 => ⟨S2x8192x512, .f32⟩
  | 68 => ⟨S2x8192x512, .f32⟩
  | 69 => ⟨S1x512, .f32⟩
  | 70 => ⟨S512, .f32⟩
  | 71 => ⟨S1x1x512, .f32⟩
  | 72 => ⟨S2x8192x512, .f32⟩
  | 73 => ⟨S2x8192x512, .f32⟩
  | 74 => ⟨S2x8192x512, .f32⟩
  | 75 => ⟨S2x8192x512, .f32⟩
  | 76 => ⟨S1x512, .f32⟩
  | 77 => ⟨S512, .f32⟩
  | 78 => ⟨S1x1x512, .f32⟩
  | 79 => ⟨S2x8192x512, .f32⟩
  | 80 => ⟨S2x8192x512, .f32⟩
  | 81 => ⟨S2x8192x512, .f32⟩
  | 82 => ⟨S2x8192x512, .f32⟩
  | 83 => ⟨S1x512, .f32⟩
  | 84 => ⟨S512, .f32⟩
  | 85 => ⟨S1x1x512, .f32⟩
  | 86 => ⟨S2x8192x512, .f32⟩
  | 87 => ⟨S2x8192x512, .f32⟩
  | 88 => ⟨S2x8192x512, .f32⟩
  | 89 => ⟨S2x8192x512, .f32⟩
  | 90 => ⟨S1x512, .f32⟩
  | 91 => ⟨S512, .f32⟩
  | 92 => ⟨S1x1x512, .f32⟩
  | 93 => ⟨S2x8192x512, .f32⟩
  | 94 => ⟨S2x8192x512, .f32⟩
  | 95 => ⟨S2x8192x512, .f32⟩
  | 96 => ⟨S2x8192x512, .f32⟩
  | 97 => ⟨S1x512, .f32⟩
  | 98 => ⟨S512, .f32⟩
  | 99 => ⟨S1x1x512, .f32⟩
  | 100 => ⟨S2x8192x512, .f32⟩
  | 101 => ⟨S2x8192x512, .f32⟩
  | 102 => ⟨S2x8192x512, .f32⟩
  | 103 => ⟨S2x8192x512, .f32⟩
  | 104 => ⟨S1x512, .f32⟩
  | 105 => ⟨S512, .f32⟩
  | 106 => ⟨S1x1x512, .f32⟩
  | 107 => ⟨S2x8192x512, .f32⟩
  | 108 => ⟨S2x8192x512, .f32⟩
  | 109 => ⟨S2x8192x512, .f32⟩
  | 110 => ⟨S2x8192x512, .f32⟩
  | 111 => ⟨S1x512, .f32⟩
  | 112 => ⟨S512, .f32⟩
  | 113 => ⟨S1x1x512, .f32⟩
  | 114 => ⟨S2x8192x512, .f32⟩
  | 115 => ⟨S2x8192x512, .f32⟩
  | 116 => ⟨S2x8192x512, .f32⟩
  | 117 => ⟨S2x8192x512, .f32⟩
  | 118 => ⟨S1x512, .f32⟩
  | 119 => ⟨S512, .f32⟩
  | 120 => ⟨S1x1x512, .f32⟩
  | 121 => ⟨S2x8192x512, .f32⟩
  | 122 => ⟨S2x8192x512, .f32⟩
  | 123 => ⟨S2x8192x512, .f32⟩
  | 124 => ⟨S2x8192x512, .f32⟩
  | 125 => ⟨S1x512, .f32⟩
  | 126 => ⟨S512, .f32⟩
  | 127 => ⟨S1x1x512, .f32⟩
  | _ => ⟨S16384x1024, .f32⟩

abbrev hbmTy0_1 (i : Nat) : BufTy := match i % 128 with
  | 0 => ⟨S2x8192x512, .f32⟩
  | 1 => ⟨S2x8192x512, .f32⟩
  | 2 => ⟨S2x8192x512, .f32⟩
  | 3 => ⟨S2x8192x512, .f32⟩
  | 4 => ⟨S1x512, .f32⟩
  | 5 => ⟨S512, .f32⟩
  | 6 => ⟨S1x1x512, .f32⟩
  | 7 => ⟨S2x8192x512, .f32⟩
  | 8 => ⟨S2x8192x512, .f32⟩
  | 9 => ⟨S2x8192x512, .f32⟩
  | 10 => ⟨S2x8192x512, .f32⟩
  | 11 => ⟨S1x512, .f32⟩
  | 12 => ⟨S512, .f32⟩
  | 13 => ⟨S1x1x512, .f32⟩
  | 14 => ⟨S2x8192x512, .f32⟩
  | 15 => ⟨S2x8192x512, .f32⟩
  | 16 => ⟨S2x8192x512, .f32⟩
  | 17 => ⟨S2x8192x512, .f32⟩
  | 18 => ⟨S1x512, .f32⟩
  | 19 => ⟨S512, .f32⟩
  | 20 => ⟨S1x1x512, .f32⟩
  | 21 => ⟨S2x8192x512, .f32⟩
  | 22 => ⟨S2x8192x512, .f32⟩
  | 23 => ⟨S2x8192x512, .f32⟩
  | 24 => ⟨S2x8192x512, .f32⟩
  | 25 => ⟨S1x512, .f32⟩
  | 26 => ⟨S512, .f32⟩
  | 27 => ⟨S1x1x512, .f32⟩
  | 28 => ⟨S2x8192x512, .f32⟩
  | 29 => ⟨S2x8192x512, .f32⟩
  | 30 => ⟨S2x8192x512, .f32⟩
  | 31 => ⟨S2x8192x512, .f32⟩
  | 32 => ⟨S1x512, .f32⟩
  | 33 => ⟨S512, .f32⟩
  | 34 => ⟨S1x1x512, .f32⟩
  | 35 => ⟨S2x8192x512, .f32⟩
  | 36 => ⟨S2x8192x512, .f32⟩
  | 37 => ⟨S2x8192x512, .f32⟩
  | 38 => ⟨S2x8192x512, .f32⟩
  | 39 => ⟨S1x512, .f32⟩
  | 40 => ⟨S512, .f32⟩
  | 41 => ⟨S1x1x512, .f32⟩
  | 42 => ⟨S2x8192x512, .f32⟩
  | 43 => ⟨S2x8192x512, .f32⟩
  | 44 => ⟨S2x8192x512, .f32⟩
  | 45 => ⟨S2x8192x512, .f32⟩
  | 46 => ⟨S1x512, .f32⟩
  | 47 => ⟨S512, .f32⟩
  | 48 => ⟨S1x1x512, .f32⟩
  | 49 => ⟨S2x8192x512, .f32⟩
  | 50 => ⟨S2x8192x512, .f32⟩
  | 51 => ⟨S2x8192x512, .f32⟩
  | 52 => ⟨S2x8192x512, .f32⟩
  | 53 => ⟨S1x512, .f32⟩
  | 54 => ⟨S512, .f32⟩
  | 55 => ⟨S1x1x512, .f32⟩
  | 56 => ⟨S2x8192x512, .f32⟩
  | 57 => ⟨S2x8192x512, .f32⟩
  | 58 => ⟨S2x8192x512, .f32⟩
  | 59 => ⟨S2x8192x512, .f32⟩
  | 60 => ⟨S1x512, .f32⟩
  | 61 => ⟨S512, .f32⟩
  | 62 => ⟨S1x1x512, .f32⟩
  | 63 => ⟨S2x8192x512, .f32⟩
  | 64 => ⟨S2x8192x512, .f32⟩
  | 65 => ⟨S2x8192x512, .f32⟩
  | 66 => ⟨S2x8192x512, .f32⟩
  | 67 => ⟨S1x512, .f32⟩
  | 68 => ⟨S512, .f32⟩
  | 69 => ⟨S1x1x512, .f32⟩
  | 70 => ⟨S2x8192x512, .f32⟩
  | 71 => ⟨S2x8192x512, .f32⟩
  | 72 => ⟨S2x8192x512, .f32⟩
  | 73 => ⟨S2x8192x512, .f32⟩
  | 74 => ⟨S1x512, .f32⟩
  | 75 => ⟨S512, .f32⟩
  | 76 => ⟨S1x1x512, .f32⟩
  | 77 => ⟨S2x8192x512, .f32⟩
  | 78 => ⟨S2x8192x512, .f32⟩
  | 79 => ⟨S2x8192x512, .f32⟩
  | 80 => ⟨S2x8192x512, .f32⟩
  | 81 => ⟨S1x512, .f32⟩
  | 82 => ⟨S512, .f32⟩
  | 83 => ⟨S1x1x512, .f32⟩
  | 84 => ⟨S2x8192x512, .f32⟩
  | 85 => ⟨S2x8192x512, .f32⟩
  | 86 => ⟨S2x8192x512, .f32⟩
  | 87 => ⟨S2x8192x512, .f32⟩
  | 88 => ⟨S1x512, .f32⟩
  | 89 => ⟨S512, .f32⟩
  | 90 => ⟨S1x1x512, .f32⟩
  | 91 => ⟨S2x8192x512, .f32⟩
  | 92 => ⟨S2x8192x512, .f32⟩
  | 93 => ⟨S2x8192x512, .f32⟩
  | 94 => ⟨S2x8192x512, .f32⟩
  | 95 => ⟨S1x512, .f32⟩
  | 96 => ⟨S512, .f32⟩
  | 97 => ⟨S1x1x512, .f32⟩
  | 98 => ⟨S2x8192x512, .f32⟩
  | 99 => ⟨S2x8192x512, .f32⟩
  | 100 => ⟨S2x8192x512, .f32⟩
  | 101 => ⟨S2x8192x512, .f32⟩
  | 102 => ⟨S1x512, .f32⟩
  | 103 => ⟨S512, .f32⟩
  | 104 => ⟨S1x1x512, .f32⟩
  | 105 => ⟨S2x8192x512, .f32⟩
  | 106 => ⟨S2x8192x512, .f32⟩
  | 107 => ⟨S2x8192x512, .f32⟩
  | 108 => ⟨S2x8192x512, .f32⟩
  | 109 => ⟨S1x512, .f32⟩
  | 110 => ⟨S512, .f32⟩
  | 111 => ⟨S1x1x512, .f32⟩
  | 112 => ⟨S2x8192x512, .f32⟩
  | 113 => ⟨S2x8192x512, .f32⟩
  | 114 => ⟨S2x8192x512, .f32⟩
  | 115 => ⟨S1x1x512, .f32⟩
  | 116 => ⟨S2x8192x512, .f32⟩
  | 117 => ⟨S2x8192x512, .f32⟩
  | 118 => ⟨S_, .f32⟩
  | 119 => ⟨S2x8192, .f32⟩
  | 120 => ⟨S2x8192x1, .f32⟩
  | 121 => ⟨S_, .f32⟩
  | 122 => ⟨S2x8192x1, .f32⟩
  | 123 => ⟨S2x8192x1, .f32⟩
  | 124 => ⟨S2x8192x512, .f32⟩
  | 125 => ⟨S2x8192x512, .f32⟩
  | 126 => ⟨S2x8192x512, .f32⟩
  | 127 => ⟨S_, .f32⟩
  | _ => ⟨S16384x1024, .f32⟩

abbrev hbmTy0_2 (i : Nat) : BufTy := match i % 128 with
  | 0 => ⟨S2x8192, .f32⟩
  | 1 => ⟨S2x8192x1, .f32⟩
  | 2 => ⟨S_, .f32⟩
  | 3 => ⟨S2x8192x1, .f32⟩
  | 4 => ⟨S2x8192x1, .f32⟩
  | 5 => ⟨S2x8192x512, .f32⟩
  | 6 => ⟨S2x8192x512, .f32⟩
  | 7 => ⟨S_, .f32⟩
  | 8 => ⟨S2x8192x1, .f32⟩
  | 9 => ⟨S2x8192x1, .f32⟩
  | 10 => ⟨S2x8192x1, .f32⟩
  | 11 => ⟨S2x8192x512, .f32⟩
  | 12 => ⟨S2x8192x512, .f32⟩
  | 13 => ⟨S1x1x512, .f32⟩
  | 14 => ⟨S2x8192x512, .f32⟩
  | 15 => ⟨S2x8192x512, .f32⟩
  | 16 => ⟨S1x1x512, .f32⟩
  | 17 => ⟨S2x8192x512, .f32⟩
  | 18 => ⟨S2x8192x512, .f32⟩
  | 19 => ⟨S2x8192x512, .f32⟩
  | 20 => ⟨S2x8192x512, .f32⟩
  | 21 => ⟨S_, .f32⟩
  | 22 => ⟨S2x8192x512, .f32⟩
  | 23 => ⟨S2x8192x512, .f32⟩
  | 24 => ⟨S_, .f32⟩
  | 25 => ⟨S2x8192x512, .f32⟩
  | 26 => ⟨S2x8192x512, .f32⟩
  | 27 => ⟨S2x8192x512, .f32⟩
  | 28 => ⟨S4x16384x128, .f32⟩
  | 29 => ⟨S16384x4x128, .f32⟩
  | 30 => ⟨S2x8192x512, .f32⟩
  | 31 => ⟨S2x8192x1024, .f32⟩
  | 32 => ⟨S1024x1024, .f32⟩
  | 33 => ⟨S2x8192x1024, .f32⟩
  | 34 => ⟨S16384x1024, .f32⟩
  | 35 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_cst_2 : Ref sig .tc := ⟨.hbm, 246, rfl⟩
abbrev main_v233 : Ref sig .tc := ⟨.hbm, 247, rfl⟩
abbrev main_v234 : Ref sig .tc := ⟨.hbm, 248, rfl⟩
abbrev main_cst_3 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_cst_4 : Ref sig .tc := ⟨.hbm, 255, rfl⟩
abbrev main_v240 : Ref sig .tc := ⟨.hbm, 256, rfl⟩
abbrev main_v241 : Ref sig .tc := ⟨.hbm, 257, rfl⟩
abbrev main_cst_5 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_cst_6 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_call1_v0 : Ref sig .tc := ⟨.hbm, 275, rfl⟩
abbrev main_call1_v1 : Ref sig .tc := ⟨.hbm, 276, rfl⟩
abbrev main_call1_cst : Ref sig .tc := ⟨.hbm, 277, rfl⟩
abbrev main_call1_v2 : Ref sig .tc := ⟨.hbm, 278, rfl⟩
abbrev main_call1_v3 : Ref sig .tc := ⟨.hbm, 279, rfl⟩
abbrev main_call1_cst_0 : Ref sig .tc := ⟨.hbm, 280, rfl⟩
abbrev main_call1_v4 : Ref sig .tc := ⟨.hbm, 281, rfl⟩
abbrev main_call1_v5 : Ref sig .tc := ⟨.hbm, 282, rfl⟩
abbrev main_v257 : Ref sig .tc := ⟨.hbm, 283, rfl⟩
abbrev main_v258 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩

abbrev nD : Nat := 1
abbrev τ : Topo := Topo.v7x

variable {F : FTy → Type} [FloatOps F]
-- ==== Proof.Ret.Spec.lean ====
module

public import Idealize.ShloMosaic.Lib.Pointwise

set_option maxRecDepth 16384

@[expose] public section

noncomputable section

/-! The retention as one function of the projection, over the extended reals. Both programs are read to it. -/

namespace Cert.RetSpec

open Idealize.ShloMosaic

/-- A position of a chunk as a real. -/
def posR (i : ℕ) : EReal := FloatOps.sitofp (F := Ideal) FTy.f32 (BitVec.ofNat 32 i)

/-- The distance of two positions of a chunk as a real. -/
def diffR (i j : ℕ) : EReal := FloatOps.sitofp (F := Ideal) FTy.f32 (IntOp.subi (BitVec.ofNat 32 i) (BitVec.ofNat 32 j))

/-- The logarithm of a head's decay. -/
def logDecay (h : Fin 4) : EReal :=
  Ideal.log (Ideal.ofBits FTy.f32 0x3F800000#32 - Ideal.exp (Ideal.ofBits FTy.f32 0x3F317218#32 *
    (Ideal.ofBits FTy.f32 0xC0A00000#32 - FloatOps.sitofp (F := Ideal) FTy.f32 (BitVec.ofNat 32 h))))

/-- The decay between two positions of one chunk. -/
def wIntra (ld : EReal) (i j : ℕ) : EReal := if 0 ≤ diffR i j then Ideal.exp (ld * max (diffR i j) 0) else 0

/-- The decay of the carried state at a position. -/
def wQ (ld : EReal) (i : ℕ) : EReal := Ideal.exp (ld * (posR i + 1))

/-- The decay of a key to the chunk's end. -/
def wK (ld : EReal) (i : ℕ) : EReal := Ideal.exp (ld * (Ideal.ofBits FTy.f32 1123942400#32 - posR i))

/-- The decay over one chunk. -/
def wC (ld : EReal) : EReal := Ideal.exp (ld * Ideal.ofBits FTy.f32 1124073472#32)

/-- One head's new state at a coordinate. -/
def stNext (ld : EReal) (k : Fin 128 → Fin 256 → EReal) (v : Fin 128 → Fin 512 → EReal) (s : Fin 256 → Fin 512 → EReal)
    (d : Fin 256) (e : Fin 512) : EReal :=
  s d e * wC ld + ∑ j : Fin 128, k j d * wK ld j * v j e

/-- One head's retention of a chunk: the chunk's own part and the carried state's. -/
def raw (ld : EReal) (q k : Fin 128 → Fin 256 → EReal) (v : Fin 128 → Fin 512 → EReal) (s : Fin 256 → Fin 512 → EReal)
    (i : Fin 128) (e : Fin 512) : EReal :=
  ∑ j : Fin 128, (∑ d : Fin 256, q i d * k j d) * wIntra ld i j * v j e + (∑ d : Fin 256, q i d * s d e) * wQ ld i

/-- The mean over a head's width. -/
def mean (f : Fin 512 → EReal) : EReal := Ideal.div (∑ x, f x) (Ideal.ofBits FTy.f32 1140850688#32)

/-- The normalization of one row of a head. -/
def gnorm (f : Fin 512 → EReal) (e : Fin 512) : EReal :=
  (f e - mean f) * Ideal.rsqrt (mean (fun x => (f x - mean f) * (f x - mean f)) + Ideal.ofBits FTy.f32 897988541#32)

/-- One row of a chunk of a head, normalized and gated. -/
def rowOut (ld : EReal) (q k : Fin 128 → Fin 256 → EReal) (v g : Fin 128 → Fin 512 → EReal) (s : Fin 256 → Fin 512 → EReal)
    (i : Fin 128) (e : Fin 512) : EReal :=
  g i e * Ideal.logistic (g i e) * gnorm (raw ld q k v s i) e

/-- The projection as a function of batch, position and column. -/
abbrev Proj := Fin 2 → Fin 8192 → Fin 6144 → EReal

/-- The row of a chunk in the sequence. -/
def rowAt (n : ℕ) (i : Fin 128) : Fin 8192 := ⟨n % 64 * 128 + i, by omega⟩

/-- A chunk's queries of a head. -/
def qAt (X : Proj) (b : Fin 2) (h : Fin 4) (n : ℕ) (i : Fin 128) (d : Fin 256) : EReal := X b (rowAt n i) ⟨256 * h + d, by omega⟩
/-- A chunk's keys of a head. -/
def kAt (X : Proj) (b : Fin 2) (h : Fin 4) (n : ℕ) (i : Fin 128) (d : Fin 256) : EReal := X b (rowAt n i) ⟨1024 + (256 * h + d), by omega⟩
/-- A chunk's values of a head. -/
def vAt (X : Proj) (b : Fin 2) (h : Fin 4) (n : ℕ) (i : Fin 128) (e : Fin 512) : EReal := X b (rowAt n i) ⟨2048 + (512 * h + e), by omega⟩
/-- A chunk's gate of a head. -/
def gAt (X : Proj) (b : Fin 2) (h : Fin 4) (n : ℕ) (i : Fin 128) (e : Fin 512) : EReal := X b (rowAt n i) ⟨4096 + (512 * h + e), by omega⟩

/-- A head's state after `n` chunks. -/
def stAt (L : Fin 4 → EReal) (X : Proj) (b : Fin 2) (h : Fin 4) : ℕ → Fin 256 → Fin 512 → EReal
  | 0 => fun _ _ => 0
  | n + 1 => stNext (L h) (kAt X b h n) (vAt X b h n) (stAt L X b h n)

/-- The gated retention at batch `b`, chunk `n`, row `i` of it, head `h` and column `e` of the head. -/
def outAt (L : Fin 4 → EReal) (X : Proj) (b : Fin 2) (n : ℕ) (i : Fin 128) (h : Fin 4) (e : Fin 512) : EReal :=
  rowOut (L h) (qAt X b h n) (kAt X b h n) (vAt X b h n) (gAt X b h n) (stAt L X b h n) i e

/-- The distance of two positions is the difference of the positions. -/
theorem diffR_eq (i j : Fin 128) : diffR i j = posR i - posR j := by
  have hn (n : Fin 128) : (BitVec.ofNat 32 n).toInt = (n : ℤ) := by
    rw [BitVec.toInt_eq_toNat_bmod, BitVec.toNat_ofNat, Nat.mod_eq_of_lt (by omega)]
    exact Int.bmod_eq_of_le (by omega) (by omega)
  have h : (IntOp.subi (BitVec.ofNat 32 i) (BitVec.ofNat 32 j)).toInt = (BitVec.ofNat 32 i).toInt - (BitVec.ofNat 32 j).toInt := by
    show (BitVec.ofNat 32 i - BitVec.ofNat 32 j).toInt = _
    rw [BitVec.toInt_sub, hn, hn]
    exact Int.bmod_eq_of_le (by omega) (by omega)
  show (((IntOp.subi (BitVec.ofNat 32 i) (BitVec.ofNat 32 j)).toInt : ℝ) : EReal) =
    (((BitVec.ofNat 32 i).toInt : ℝ) : EReal) - (((BitVec.ofNat 32 j).toInt : ℝ) : EReal)
  rw [h, Int.cast_sub, EReal.coe_sub]

end Cert.RetSpec
-- ==== Proof.Ret.Core.lean ====
module

public import proofs.«01_k».proof.Proof.Gen.RetIdeal.Skeleton
public import proofs.«01_k».proof.Proof.Ret.Spec
public import Idealize.ShloMosaic.Lib.Pointwise

set_option maxRecDepth 16384

@[expose] public section

noncomputable section

namespace Cert.RetCore

open Idealize.ShloMosaic Idealize.ShloMosaic.TcCoe Idealize.SL.Sem
open Cert.RetSpec Cert.RetIdeal Cert.RetIdeal.Gen

/-- One head's new state from its log decay, its chunk's keys and values and its old state. -/
def stCore (ld : Ideal .f32) (k : FVec Ideal S1x128x256 .bf16) (v : FVec Ideal S1x128x512 .bf16) (st : FVec Ideal S1x1x256x512 .f32) :
    FVec Ideal S1x1x256x512 .f32 :=
  k0_pay13 (F := Ideal) (k0_pay7 ld) (k0_pay8 ld) (k0_pay10 k) (k0_pay11 v) st

/-- One head's normalized heads before the gate. -/
def oCore (ld : Ideal .f32) (q k : FVec Ideal S1x128x256 .bf16) (v : FVec Ideal S1x128x512 .bf16) (st : FVec Ideal S1x1x256x512 .f32) :
    FVec Ideal S128x512 .f32 :=
  k0_pay14 (F := Ideal) (k0_pay5 ld) (k0_pay6 ld) (k0_pay9 q) (k0_pay10 k) (k0_pay11 v) (constant S128x128 .f32 0x00000000#32) st

/-- One head's gated rows. -/
def outCore (ld : Ideal .f32) (q k : FVec Ideal S1x128x256 .bf16) (v g : FVec Ideal S1x128x512 .bf16) (st : FVec Ideal S1x1x256x512 .f32) :
    FVec Ideal S1x128x512 .bf16 :=
  k0_pay15 (F := Ideal) (oCore ld q k v st) g

/-- The kernel's decay between two positions. -/
theorem pay5_apply (ld : Ideal .f32) (i j : Fin 128) : k0_pay5 (F := Ideal) ld (ix2 i j) = wIntra ld i j := by
  pointwise [k0_pay5, k0_pay3]; rfl

/-- The kernel's decay of the state at a position. -/
theorem pay6_apply (ld : Ideal .f32) (i : Fin 128) : k0_pay6 (F := Ideal) ld (ix2 i 0) = wQ ld i := by
  pointwise [k0_pay6, k0_pay4]; rfl

/-- The kernel's decay of a key. -/
theorem pay7_apply (ld : Ideal .f32) (i : Fin 128) : k0_pay7 (F := Ideal) ld (ix2 i 0) = wK ld i := by
  pointwise [k0_pay7, k0_pay4]; rfl

/-- The kernel's decay over a chunk. -/
theorem pay8_apply (ld : Ideal .f32) : k0_pay8 (F := Ideal) ld (ix2 0 0) = wC ld := by
  pointwise [k0_pay8]; rfl

/-- One head's new state at a coordinate. -/
theorem stCore_apply (ld : Ideal .f32) (k : FVec Ideal S1x128x256 .bf16) (v : FVec Ideal S1x128x512 .bf16) (st : FVec Ideal S1x1x256x512 .f32)
    (d : Fin 256) (e : Fin 512) : stCore ld k v st (ix4 0 0 d e) =
      stNext ld (fun j d => k (ix3 0 j d)) (fun j e => v (ix3 0 j e)) (fun d e => st (ix4 0 0 d e)) d e := by
  pointwise [stCore, k0_pay13, k0_pay10, k0_pay11, k0_pay12, pay8_apply, pay7_apply]
  rfl

/-- One head's gated rows at a coordinate. -/
theorem outCore_apply (ld : Ideal .f32) (q k : FVec Ideal S1x128x256 .bf16) (v g : FVec Ideal S1x128x512 .bf16) (st : FVec Ideal S1x1x256x512 .f32)
    (i : Fin 128) (e : Fin 512) : outCore ld q k v g st (ix3 0 i e) =
      rowOut ld (fun i d => q (ix3 0 i d)) (fun j d => k (ix3 0 j d)) (fun j e => v (ix3 0 j e)) (fun j e => g (ix3 0 j e))
        (fun d e => st (ix4 0 0 d e)) i e := by
  pointwise [outCore, k0_pay15, oCore, k0_pay14, k0_pay9, k0_pay10, k0_pay11, k0_pay12, pay5_apply, pay6_apply]
  rfl

end Cert.RetCore
-- ==== Proof.Ret.Kernel.lean ====
module

public import proofs.«01_k».proof.Proof.Gen.RetIdeal.Value
public import proofs.«01_k».proof.Proof.Ret.Core
public import Idealize.ShloMosaic.Lib.Pipeline.ValueKit
public import Idealize.ShloMosaic.Lib.Pipeline.ReadBack

set_option maxRecDepth 16384

@[expose] public section

noncomputable section

namespace Cert.RetKernel

open Idealize.ShloMosaic Idealize.ShloMosaic.TcCoe Idealize.SL.Sem
open Cert.RetSpec Cert.RetCore Cert.RetIdeal Cert.RetIdeal.Gen Cert.RetIdeal.Value

variable (m : (ℓ : Loc nD τ sig) → Buf (Elt Ideal) ℓ)

/-- Stores over earlier ones, at an index the later ones cover: the earlier ones do not matter. -/
theorem canon_drop {s : Shape} {e : EltTy} (L L' : List (View.Piece (Elt Ideal) s e)) (y : s.Idx) (hc : ∃ p ∈ L, y ∈ p.1.set) :
    View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      exact (View.canon_cons_emb _ _ _ x).trans (View.canon_cons_emb _ _ _ x).symm
    · obtain ⟨q, hq, hy⟩ := hc
      rcases List.mem_cons.mp hq with rfl | hq
      · exact absurd hy hm
      · exact (View.canon_cons_of_not_mem p _ hm).trans ((ih ⟨q, hq, hy⟩).trans (View.canon_cons_of_not_mem p _ hm).symm)

/-- One head's new state, its operands being the slices of the blocks that belong to the head. -/
theorem st_core (L : FVec Ideal S4 .f32) (K : FVec Ideal S2x128x1024 .bf16) (V : FVec Ideal S2x128x2048 .bf16) (S : FVec Ideal S2x4x256x512 .f32)
    (b : Fin 2) (h : Fin 4) (d : Fin 256) (e : Fin 512) (x : S1x1x256x512.Idx) (hx : x = ix4 0 0 d e)
    (ld : Ideal .f32) (k : FVec Ideal S1x128x256 .bf16) (v : FVec Ideal S1x128x512 .bf16) (s : FVec Ideal S1x1x256x512 .f32)
    (hld : ld = L (ix1 h)) (hk : ∀ (j : Fin 128) (d : Fin 256), k (ix3 0 j d) = K (ix3 b j ⟨256 * h + d, by omega⟩))
    (hv : ∀ (j : Fin 128) (e : Fin 512), v (ix3 0 j e) = V (ix3 b j ⟨512 * h + e, by omega⟩))
    (hs : ∀ (d : Fin 256) (e : Fin 512), s (ix4 0 0 d e) = S (ix4 b h d e)) :
    stCore ld k v s x = stNext (L (ix1 h)) (fun j d => K (ix3 b j ⟨256 * h + d, by omega⟩)) (fun j e => V (ix3 b j ⟨512 * h + e, by omega⟩))
      (fun d e => S (ix4 b h d e)) d e := by
  subst hx hld
  rw [stCore_apply]
  simp only [hk, hv, hs]

/-- One head's gated rows, their operands being the slices of the blocks that belong to the head. -/
theorem out_core (L : FVec Ideal S4 .f32) (Q K : FVec Ideal S2x128x1024 .bf16) (V G : FVec Ideal S2x128x2048 .bf16) (S : FVec Ideal S2x4x256x512 .f32)
    (b : Fin 2) (h : Fin 4) (i : Fin 128) (e : Fin 512) (x : S1x128x512.Idx) (hx : x = ix3 0 i e)
    (ld : Ideal .f32) (q k : FVec Ideal S1x128x256 .bf16) (v g : FVec Ideal S1x128x512 .bf16) (s : FVec Ideal S1x1x256x512 .f32)
    (hld : ld = L (ix1 h)) (hq : ∀ (j : Fin 128) (d : Fin 256), q (ix3 0 j d) = Q (ix3 b j ⟨256 * h + d, by omega⟩))
    (hk : ∀ (j : Fin 128) (d : Fin 256), k (ix3 0 j d) = K (ix3 b j ⟨256 * h + d, by omega⟩))
    (hv : ∀ (j : Fin 128) (e : Fin 512), v (ix3 0 j e) = V (ix3 b j ⟨512 * h + e, by omega⟩))
    (hg : ∀ (j : Fin 128) (e : Fin 512), g (ix3 0 j e) = G (ix3 b j ⟨512 * h + e, by omega⟩))
    (hs : ∀ (d : Fin 256) (e : Fin 512), s (ix4 0 0 d e) = S (ix4 b h d e)) :
    outCore ld q k v g s x = rowOut (L (ix1 h)) (fun j d => Q (ix3 b j ⟨256 * h + d, by omega⟩)) (fun j d => K (ix3 b j ⟨256 * h + d, by omega⟩))
      (fun j e => V (ix3 b j ⟨512 * h + e, by omega⟩)) (fun j e => G (ix3 b j ⟨512 * h + e, by omega⟩))
      (fun d e => S (ix4 b h d e)) i e := by
  subst hx hld
  rw [outCore_apply]
  simp only [hq, hk, hv, hg, hs]

/-- What a later point leaves in the state, at a coordinate. -/
theorem soutB (c : Dev nD) (t : Fin cfg0.N) (acc : Vec Ideal S2x128x2048 .bf16 × Vec Ideal S2x4x256x512 .f32) (h0 : ¬t.val % 64 = 0)
    (b : Fin 2) (h : Fin 4) (d : Fin 256) (e : Fin 512) :
    (stAt0 m c t.val t.isLt acc).2 (ix4 b h d e) =
      stNext (iblk m c 0 t (ix1 h)) (fun j d => iblk m c 2 t (ix3 b j ⟨256 * h + d, by omega⟩)) (fun j e => iblk m c 3 t (ix3 b j ⟨512 * h + e, by omega⟩))
        (fun d e => acc.2 (ix4 b h d e)) d e := by
  rw [stAt0_B m c t acc h0]
  dsimp only
  frame_out
  canon_tiles x hx
  all_goals
    have x0 : ((x 0 : _) : ℕ) = 0 := by omega
    have x1 : ((x 1 : _) : ℕ) = 0 := by omega
    rw [x0] at hx0
    rw [x1] at hx1
    obtain ⟨b, hb⟩ := b
    obtain ⟨h, hh⟩ := h
    obtain rfl : b = _ := hx0
    obtain rfl : h = _ := hx1
  all_goals
    refine st_core _ _ _ _ _ _ _ _ _ ?_ _ _ _ _ ?_ ?_ ?_ ?_
    · rw [eq_ix4 x]
      exact (ix4_inj ..).2 ⟨Fin.ext x0, Fin.ext x1, Fin.ext hx2.symm, Fin.ext hx3.symm⟩
    · pointwise; try rfl
    · intro j d; pointwise; try rfl
    · intro j e; pointwise; try rfl
    · intro d e
      pointwise; exact congrFun ((Memref.isWhole_whole cc0_scratch0).read_unread acc.2) _

set_option maxHeartbeats 1600000 in
/-- What a later point writes, at a coordinate. -/
theorem outB (c : Dev nD) (t : Fin cfg0.N) (acc : Vec Ideal S2x128x2048 .bf16 × Vec Ideal S2x4x256x512 .f32) (h0 : ¬t.val % 64 = 0)
    (b : Fin 2) (i : Fin 128) (h : Fin 4) (e : Fin 512) (y : Fin 2048) (hy : (y : ℕ) = 512 * h + e) :
    (stAt0 m c t.val t.isLt acc).1 (ix3 b i y) =
      rowOut (iblk m c 0 t (ix1 h)) (fun j d => iblk m c 1 t (ix3 b j ⟨256 * h + d, by omega⟩)) (fun j d => iblk m c 2 t (ix3 b j ⟨256 * h + d, by omega⟩))
        (fun j e => iblk m c 3 t (ix3 b j ⟨512 * h + e, by omega⟩)) (fun j e => iblk m c 4 t (ix3 b j ⟨512 * h + e, by omega⟩))
        (fun d e => acc.2 (ix4 b h d e)) i e := by
  rw [stAt0_B m c t acc h0]
  dsimp only
  frame_out
  canon_tiles x hx
  all_goals
    have x0 : ((x 0 : _) : ℕ) = 0 := by omega
    rw [x0] at hx0
    have x1 : (i : ℕ) = (x 1 : _) := hx1
    have x2 : (y : ℕ) = _ := hx2
    obtain ⟨b, hb⟩ := b
    obtain ⟨h, hh⟩ := h
    obtain ⟨e, he⟩ := e
    obtain rfl : b = _ := hx0
    dsimp only at hy
    have x3 : ((x 2 : _) : ℕ) < 512 := x2_lt
    generalize hw : ((x 2 : _) : ℕ) = w at x2 x3
    clear hx1 hx2 x0_lt x1_lt x2_lt
    rw [x2] at hy
  case' piece0 => obtain rfl : h = 3 := by omega
  case' piece1 => obtain rfl : h = 3 := by omega
  case' piece2 => obtain rfl : h = 2 := by omega
  case' piece3 => obtain rfl : h = 2 := by omega
  case' piece4 => obtain rfl : h = 1 := by omega
  case' piece5 => obtain rfl : h = 1 := by omega
  case' piece6 => obtain rfl : h = 0 := by omega
  case' piece7 => obtain rfl : h = 0 := by omega
  all_goals
    refine out_core _ _ _ _ _ _ _ _ _ _ _ ?_ _ _ _ _ _ _ ?_ ?_ ?_ ?_ ?_ ?_
    · rw [eq_ix3 x]
      exact (ix3_inj ..).2 ⟨Fin.ext x0, Fin.ext x1.symm, Fin.ext (hw.trans (by omega : w = e))⟩
    · pointwise; try rfl
    · intro j d; pointwise; try rfl
    · intro j d; pointwise; try rfl
    · intro j e; pointwise; try rfl
    · intro j e; pointwise; try rfl
    · intro d e
      pointwise; exact congrFun ((Memref.isWhole_whole cc0_scratch0).read_unread acc.2) _

/-- What the first point leaves in the state, at a coordinate. -/
theorem soutA (c : Dev nD) (t : Fin cfg0.N) (acc : Vec Ideal S2x128x2048 .bf16 × Vec Ideal S2x4x256x512 .f32) (h0 : t.val % 64 = 0)
    (b : Fin 2) (h : Fin 4) (d : Fin 256) (e : Fin 512) :
    (stAt0 m c t.val t.isLt acc).2 (ix4 b h d e) =
      stNext (iblk m c 0 t (ix1 h)) (fun j d => iblk m c 2 t (ix3 b j ⟨256 * h + d, by omega⟩)) (fun j e => iblk m c 3 t (ix3 b j ⟨512 * h + e, by omega⟩))
        (fun d e => (0 : EReal)) d e := by
  rw [stAt0_A m c t acc h0]
  dsimp only
  frame_open
  simp (disch := decide) only [↓ View.readCov_skip, ↓ View.readCov_cons_toLoadRect, ↓ View.readCov_fill]
  frame_out
  refine (canon_drop [_, _, _, _, _, _, _, _] [_] _ ?_).trans ?_
  · refine View.cover_of_tiledL (s := S2x4x256x512) _ S1x1x256x512.size ?_ _
    sl_kernel_rfl
  canon_tiles x hx
  all_goals
    have x0 : ((x 0 : _) : ℕ) = 0 := by omega
    have x1 : ((x 1 : _) : ℕ) = 0 := by omega
    rw [x0] at hx0
    rw [x1] at hx1
    obtain ⟨b, hb⟩ := b
    obtain ⟨h, hh⟩ := h
    obtain rfl : b = _ := hx0
    obtain rfl : h = _ := hx1
  all_goals
    refine st_core _ _ _ (fun _ => 0) _ _ _ _ _ ?_ _ _ _ _ ?_ ?_ ?_ ?_
    · rw [eq_ix4 x]
      exact (ix4_inj ..).2 ⟨Fin.ext x0, Fin.ext x1, Fin.ext hx2.symm, Fin.ext hx3.symm⟩
    · pointwise; try rfl
    · intro j d; pointwise; try rfl
    · intro j e; pointwise; try rfl
    · intro d e
      pointwise [k0_pay2]

set_option maxHeartbeats 1600000 in
/-- What the first point writes, at a coordinate. -/
theorem outA (c : Dev nD) (t : Fin cfg0.N) (acc : Vec Ideal S2x128x2048 .bf16 × Vec Ideal S2x4x256x512 .f32) (h0 : t.val % 64 = 0)
    (b : Fin 2) (i : Fin 128) (h : Fin 4) (e : Fin 512) (y : Fin 2048) (hy : (y : ℕ) = 512 * h + e) :
    (stAt0 m c t.val t.isLt acc).1 (ix3 b i y) =
      rowOut (iblk m c 0 t (ix1 h)) (fun j d => iblk m c 1 t (ix3 b j ⟨256 * h + d, by omega⟩)) (fun j d => iblk m c 2 t (ix3 b j ⟨256 * h + d, by omega⟩))
        (fun j e => iblk m c 3 t (ix3 b j ⟨512 * h + e, by omega⟩)) (fun j e => iblk m c 4 t (ix3 b j ⟨512 * h + e, by omega⟩))
        (fun d e => (0 : EReal)) i e := by
  rw [stAt0_A m c t acc h0]
  dsimp only
  frame_open
  simp (disch := decide) only [↓ View.readCov_skip, ↓ View.readCov_cons_toLoadRect, ↓ View.readCov_fill]
  frame_out
  canon_tiles x hx
  all_goals
    have x0 : ((x 0 : _) : ℕ) = 0 := by omega
    rw [x0] at hx0
    have x1 : (i : ℕ) = (x 1 : _) := hx1
    have x2 : (y : ℕ) = _ := hx2
    obtain ⟨b, hb⟩ := b
    obtain ⟨h, hh⟩ := h
    obtain ⟨e, he⟩ := e
    obtain rfl : b = _ := hx0
    dsimp only at hy
    have x3 : ((x 2 : _) : ℕ) < 512 := x2_lt
    generalize hw : ((x 2 : _) : ℕ) = w at x2 x3
    clear hx1 hx2 x0_lt x1_lt x2_lt
    rw [x2] at hy
  case' piece0 => obtain rfl : h = 3 := by omega
  case' piece1 => obtain rfl : h = 3 := by omega
  case' piece2 => obtain rfl : h = 2 := by omega
  case' piece3 => obtain rfl : h = 2 := by omega
  case' piece4 => obtain rfl : h = 1 := by omega
  case' piece5 => obtain rfl : h = 1 := by omega
  case' piece6 => obtain rfl : h = 0 := by omega
  case' piece7 => obtain rfl : h = 0 := by omega
  all_goals
    refine out_core _ _ _ _ _ (fun _ => 0) _ _ _ _ _ ?_ _ _ _ _ _ _ ?_ ?_ ?_ ?_ ?_ ?_
    · rw [eq_ix3 x]
      exact (ix3_inj ..).2 ⟨Fin.ext x0, Fin.ext x1.symm, Fin.ext (hw.trans (by omega : w = e))⟩
    · pointwise; try rfl
    · intro j d; pointwise; try rfl
    · intro j d; pointwise; try rfl
    · intro j e; pointwise; try rfl
    · intro j e; pointwise; try rfl
    · intro d e
      pointwise [k0_pay2]

end Cert.RetKernel
-- ==== Proof.Ret.KernelFold.lean ====
module

public import proofs.«01_k».proof.Proof.Ret.Kernel
public import Idealize.ShloMosaic.Lib.Claim

set_option maxRecDepth 16384

@[expose] public section

noncomputable section

namespace Cert.RetKernel

open Idealize.ShloMosaic Idealize.ShloMosaic.TcCoe Idealize.SL.Sem
open Cert.RetSpec Cert.RetCore Cert.RetIdeal Cert.RetIdeal.Gen Cert.RetIdeal.Value

variable (m : (ℓ : Loc nD τ sig) → Buf (Elt Ideal) ℓ)

/-- The projection a launch is given, by batch, position and column. -/
def projOf (c : Dev nD) : Proj := fun b s q => m ((c : Thread nD τ).loc main_arg0) (ix2 ⟨(b : ℕ) * 8192 + s, by omega⟩ q)

/-- The index maps of the five input windows. -/
theorem idx0 : ∀ t : Fin cfg0.N, win0_0.index t = ![0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 1] := (by decide +kernel : ∀ t : Fin grid0.N, _)
theorem idx3 : ∀ t : Fin cfg0.N, win0_3.index t = ![0, t.val, 1] := (by decide +kernel : ∀ t : Fin grid0.N, _)
theorem idx4 : ∀ t : Fin cfg0.N, win0_4.index t = ![0, t.val, 2] := (by decide +kernel : ∀ t : Fin grid0.N, _)

/-- The reshaped projection is the projection at the row of the batch. -/
theorem entry_v9 (c : Dev nD) (b : Fin 2) (s : Fin 8192) (q : Fin 6144) : V m c main_v9 (ix3 b s q) = projOf m c b s q := by
  entry_read
  unfold projOf
  pointwise

/-- The host's decay logarithms. -/
theorem entry_v8 (c : Dev nD) (h : Fin 4) : V m c main_v8 (ix1 h) = logDecay h := by
  entry_read
  unfold logDecay
  pointwise

/-- The decay logarithms as every point reads them. -/
theorem read0 (c : Dev nD) (t : Fin cfg0.N) (h : Fin 4) : iblk m c 0 t (ix1 h) = logDecay h := by
  rw [← entry_v8 m c h]
  blk_ext [iblk, idx0 t]

/-- The queries a point reads. -/
theorem read1 (c : Dev nD) (t : Fin cfg0.N) (b : Fin 2) (h : Fin 4) (j : Fin 128) (d : Fin 256) (n : ℕ) (hn : n = t.val) :
    iblk m c 1 t (ix3 b j ⟨256 * h + d, by omega⟩) = qAt (projOf m c) b h n j d := by
  subst hn
  have hN := lt_of_lt_of_eq t.isLt (show cfg0.N = 64 from N_0)
  unfold qAt rowAt
  rw [← entry_v9 m c]
  blk_ext [iblk, idx1 t]

/-- The keys a point reads. -/
theorem read2 (c : Dev nD) (t : Fin cfg0.N) (b : Fin 2) (h : Fin 4) (j : Fin 128) (d : Fin 256) (n : ℕ) (hn : n = t.val) :
    iblk m c 2 t (ix3 b j ⟨256 * h + d, by omega⟩) = kAt (projOf m c) b h n j d := by
  subst hn
  have hN := lt_of_lt_of_eq t.isLt (show cfg0.N = 64 from N_0)
  unfold kAt rowAt
  rw [← entry_v9 m c]
  blk_ext [iblk, idx2 t]

/-- The values a point reads. -/
theorem read3 (c : Dev nD) (t : Fin cfg0.N) (b : Fin 2) (h : Fin 4) (j : Fin 128) (e : Fin 512) (n : ℕ) (hn : n = t.val) :
    iblk m c 3 t (ix3 b j ⟨512 * h + e, by omega⟩) = vAt (projOf m c) b h n j e := by
  subst hn
  have hN := lt_of_lt_of_eq t.isLt (show cfg0.N = 64 from N_0)
  unfold vAt rowAt
  rw [← entry_v9 m c]
  blk_ext [iblk, idx3 t]

/-- The gates a point reads. -/
theorem read4 (c : Dev nD) (t : Fin cfg0.N) (b : Fin 2) (h : Fin 4) (j : Fin 128) (e : Fin 512) (n : ℕ) (hn : n = t.val) :
    iblk m c 4 t (ix3 b j ⟨512 * h + e, by omega⟩) = gAt (projOf m c) b h n j e := by
  subst hn
  have hN := lt_of_lt_of_eq t.isLt (show cfg0.N = 64 from N_0)
  unfold gAt rowAt
  rw [← entry_v9 m c]
  blk_ext [iblk, idx4 t]

/-- The state before a point: zero at the first. -/
theorem stAt_zero (X : Proj) (b : Fin 2) (h : Fin 4) : stAt logDecay X b h 0 = fun _ _ => 0 := rfl

/-- After point `n` the scratch holds the state after `n + 1` chunks. -/
theorem state_eq (c : Dev nD) (b : Fin 2) (h : Fin 4) (d : Fin 256) (e : Fin 512) : ∀ (n : ℕ) (hn : n < cfg0.N),
    (outsAt0 m c n hn).2 (ix4 b h d e) = stAt logDecay (projOf m c) b h (n + 1) d e := by
  intro n
  induction n generalizing d e with
  | zero =>
    intro hn
    rw [outsAt0_zero m c hn, soutA m c ⟨0, hn⟩ junk0 rfl b h d e]
    simp only [read0, read2 m c ⟨0, hn⟩ b h _ _ 0 rfl, read3 m c ⟨0, hn⟩ b h _ _ 0 rfl]
    rfl
  | succ n ih =>
    intro hn
    have hN := lt_of_lt_of_eq hn (show cfg0.N = 64 from N_0)
    rw [outsAt0_succ m c n hn, soutB m c ⟨n + 1, hn⟩ _ (show ¬(n + 1) % 64 = 0 by omega) b h d e]
    simp only [read0, read2 m c ⟨n + 1, hn⟩ b h _ _ (n + 1) rfl, read3 m c ⟨n + 1, hn⟩ b h _ _ (n + 1) rfl, ih]
    rfl

/-- Point `n` writes the gated retention of chunk `n`. -/
theorem out_eq (c : Dev nD) (b : Fin 2) (i : Fin 128) (h : Fin 4) (e : Fin 512) (y : Fin 2048) (hy : (y : ℕ) = 512 * h + e) (n : ℕ) (hn : n < cfg0.N) :
    (outsAt0 m c n hn).1 (ix3 b i y) = outAt logDecay (projOf m c) b n i h e := by
  have hN := lt_of_lt_of_eq hn (show cfg0.N = 64 from N_0)
  cases n with
  | zero =>
    rw [outsAt0_zero m c hn, outA m c ⟨0, hn⟩ junk0 rfl b i h e y hy]
    simp only [read0, read1 m c ⟨0, hn⟩ b h _ _ 0 rfl, read2 m c ⟨0, hn⟩ b h _ _ 0 rfl, read3 m c ⟨0, hn⟩ b h _ _ 0 rfl, read4 m c ⟨0, hn⟩ b h _ _ 0 rfl]
    rfl
  | succ n =>
    rw [outsAt0_succ m c n hn, outB m c ⟨n + 1, hn⟩ _ (show ¬(n + 1) % 64 = 0 by omega) b i h e y hy]
    simp only [read0, read1 m c ⟨n + 1, hn⟩ b h _ _ (n + 1) rfl, read2 m c ⟨n + 1, hn⟩ b h _ _ (n + 1) rfl,
      read3 m c ⟨n + 1, hn⟩ b h _ _ (n + 1) rfl, read4 m c ⟨n + 1, hn⟩ b h _ _ (n + 1) rfl, state_eq]
    rfl

/-- The output array of the kernel is the gated retention. -/
theorem G5_apply (c : Dev nD) (b : Fin 2) (n : Fin 64) (i : Fin 128) (h : Fin 4) (e : Fin 512) (s : Fin 8192) (y : Fin 2048)
    (hs : (s : ℕ) = n * 128 + i) (hy : (y : ℕ) = 512 * h + e) :
    G5 m c (ix3 b s y) = outAt logDecay (projOf m c) b n i h e := by
  have hN : cfg0.N = 64 := N_0
  have hp : pt5Of (ix3 b s y) = (n : ℕ) := by
    show 64 * ((b : ℕ) / 2 - 0) + 1 * ((s : ℕ) / 128 - 0) + 1 * ((y : ℕ) / 2048 - 0) = _
    omega
  have hl : loc5Of (ix3 b s y) = ix3 b i y := by
    funext a; apply Fin.ext
    match a with
    | ⟨0, _⟩ => show (b : ℕ) % 2 = (b : ℕ); omega
    | ⟨1, _⟩ => show (s : ℕ) % 128 = (i : ℕ); omega
    | ⟨2, _⟩ => show (y : ℕ) % 2048 = (y : ℕ); omega
  unfold G5
  rw [dif_pos (by rw [hp, hN]; exact n.isLt), hl, fold0_congr m c _ _ (n : ℕ) (by omega) hp, ← outsAt0_sweep m c n (by omega)]
  exact out_eq m c b i h e y hy n _

end Cert.RetKernel
-- ==== Proof.Ret.RefStep.lean ====
module

public import proofs.«01_k».proof.Proof.Gen.RetRefIdeal.Run
public import proofs.«01_k».proof.Proof.Ret.Spec
public import Idealize.ShloMosaic.Lib.Claim

set_option maxRecDepth 16384

@[expose] public section

noncomputable section

namespace Cert.RetRef

open Idealize.ShloMosaic Idealize.ShloMosaic.TcCoe Idealize.SL.Sem
open Cert.RetSpec Cert.RetRefIdeal Cert.RetRefIdeal.Gen Cert.RetRefIdeal.Value

/-- Where a chunk's slice starts, the counter being at chunk `n`. -/
def startAt (n : ℕ) (k : Fin 5) : ℤ :=
  ((![fun _ => Scf.iv 0#32 1#32 n, constantI S_ 32 0#32, constantI S_ 32 0#32, constantI S_ 32 0#32, constantI S_ 32 0#32] :
    Fin 5 → (⟨S_, .i32⟩ : BufTy).Contents (Elt Ideal)) k (Shape.Idx.first h_S_)).toInt

theorem startAt_eq (n : Fin 64) : startAt n = ![(n : ℤ), 0, 0, 0, 0] := by
  have hn : (BitVec.ofNat 32 n).toInt = (n : ℤ) := by
    rw [BitVec.toInt_eq_toNat_bmod, BitVec.toNat_ofNat, Nat.mod_eq_of_lt (by omega)]
    exact Int.bmod_eq_of_le (by omega) (by omega)
  funext k
  match k with
  | ⟨0, _⟩ =>
    show (0#32 + BitVec.ofNat 32 n * 1#32).toInt = (n : ℤ)
    rw [BitVec.mul_one, BitVec.zero_add, hn]
  | ⟨1, _⟩ => rfl
  | ⟨2, _⟩ => rfl
  | ⟨3, _⟩ => rfl
  | ⟨4, _⟩ => rfl

/-- One trip's new state, of the stacks of keys and values, the decays and the state. -/
def stepState (n : ℕ) (K : FVec Ideal S64x2x4x128x256 .f32) (U : FVec Ideal S64x2x4x128x512 .f32) (C : FVec Ideal S1x4x1x1 .f32)
    (W : FVec Ideal S1x4x128x1 .f32) (S : FVec Ideal S2x4x256x512 .f32) : FVec Ideal S2x4x256x512 .f32 :=
  addf (mulf S (broadcastInDim S2x4x256x512 ![0, 1, 2, 3] bcast_S1x4x1x1_S2x4x256x512_0_1_2_3 C))
    (Host.dotGeneral dot_S2x4x128x256_S2x4x128x512_S2x4x256x512_2_2_3_3_01_01 none
      (mulf (shapeCast S2x4x128x256 (Host.dynamicSlice S1x2x4x128x256 K (startAt n) sliceFits_S64x2x4x128x256_S1x2x4x128x256) shapeCasts_S1x2x4x128x256_S2x4x128x256)
        (broadcastInDim S2x4x128x256 ![0, 1, 2, 3] bcast_S1x4x128x1_S2x4x128x256_0_1_2_3 W))
      (shapeCast S2x4x128x512 (Host.dynamicSlice S1x2x4x128x512 U (startAt n) sliceFits_S64x2x4x128x512_S1x2x4x128x512) shapeCasts_S1x2x4x128x512_S2x4x128x512))

/-- One trip's new stack of cross terms, of the stack of queries, the decay, the state and the stack. -/
def stepCross (n : ℕ) (Q : FVec Ideal S64x2x4x128x256 .f32) (W : FVec Ideal S1x4x128x1 .f32) (S : FVec Ideal S2x4x256x512 .f32)
    (A : FVec Ideal S64x2x4x128x512 .f32) : FVec Ideal S64x2x4x128x512 .f32 :=
  Host.dynamicUpdateSlice A
    (broadcastInDim S1x2x4x128x512 ![1, 2, 3, 4] bcast_S2x4x128x512_S1x2x4x128x512_1_2_3_4
      (mulf (Host.dotGeneral dot_S2x4x128x256_S2x4x256x512_S2x4x128x512_3_2_2_3_01_01 none
          (shapeCast S2x4x128x256 (Host.dynamicSlice S1x2x4x128x256 Q (startAt n) sliceFits_S64x2x4x128x256_S1x2x4x128x256) shapeCasts_S1x2x4x128x256_S2x4x128x256) S)
        (broadcastInDim S2x4x128x512 ![0, 1, 2, 3] bcast_S1x4x128x1_S2x4x128x512_0_1_2_3 W)))
    (startAt n) updateFits_S64x2x4x128x512_S1x2x4x128x512

/-- The clamped starts of a slice of a stack of 64 chunks: the chunk's on the first axis, else 0. -/
theorem clamp256 (n : Fin 64) (hr : S64x2x4x128x256.rank = S1x2x4x128x256.rank) :
    Host.clampedStart S64x2x4x128x256 S1x2x4x128x256 hr ![(n : ℤ), 0, 0, 0, 0] = ![(n : ℕ), 0, 0, 0, 0] := by
  funext k
  match k with
  | ⟨0, _⟩ => show (min (max (n : ℤ) 0) 63).toNat = (n : ℕ); omega
  | ⟨1, _⟩ => rfl
  | ⟨2, _⟩ => rfl
  | ⟨3, _⟩ => rfl
  | ⟨4, _⟩ => rfl

/-- The clamped starts of a slice of a stack of 64 chunks of values. -/
theorem clamp512 (n : Fin 64) (hr : S64x2x4x128x512.rank = S1x2x4x128x512.rank) :
    Host.clampedStart S64x2x4x128x512 S1x2x4x128x512 hr ![(n : ℤ), 0, 0, 0, 0] = ![(n : ℕ), 0, 0, 0, 0] := by
  funext k
  match k with
  | ⟨0, _⟩ => show (min (max (n : ℤ) 0) 63).toNat = (n : ℕ); omega
  | ⟨1, _⟩ => rfl
  | ⟨2, _⟩ => rfl
  | ⟨3, _⟩ => rfl
  | ⟨4, _⟩ => rfl

/-- The new state at a coordinate. -/
theorem stepState_apply (n : Fin 64) (K : FVec Ideal S64x2x4x128x256 .f32) (U : FVec Ideal S64x2x4x128x512 .f32) (C : FVec Ideal S1x4x1x1 .f32)
    (W : FVec Ideal S1x4x128x1 .f32) (S : FVec Ideal S2x4x256x512 .f32) (b : Fin 2) (h : Fin 4) (d : Fin 256) (e : Fin 512) :
    stepState n K U C W S (ix4 b h d e) = S (ix4 b h d e) * C (ix4 0 h 0 0) +
      ∑ j : Fin 128, K (ix5 n b h j d) * W (ix4 0 h j 0) * U (ix5 n b h j e) := by
  unfold stepState
  rw [startAt_eq]
  pointwise
  simp only [clamp256, clamp512, Matrix.cons_val, Nat.zero_add]

/-- The new stack of cross terms at a coordinate: the chunk's row is new. -/
theorem stepCross_apply (n : Fin 64) (Q : FVec Ideal S64x2x4x128x256 .f32) (W : FVec Ideal S1x4x128x1 .f32) (S : FVec Ideal S2x4x256x512 .f32)
    (A : FVec Ideal S64x2x4x128x512 .f32) (r : Fin 64) (b : Fin 2) (h : Fin 4) (i : Fin 128) (e : Fin 512) :
    stepCross n Q W S A (ix5 r b h i e) =
      if (r : ℕ) = n then (∑ d : Fin 256, Q (ix5 n b h i d) * S (ix4 b h d e)) * W (ix4 0 h i 0) else A (ix5 r b h i e) := by
  unfold stepCross
  rw [startAt_eq]
  pointwise
  simp only [clamp256, clamp512, Matrix.cons_val, Nat.zero_add, Nat.sub_zero, Fin.eta, dite_eq_ite]
  by_cases hr : (r : ℕ) = n
  · rw [if_pos hr, if_pos ⟨⟨by omega, by omega⟩, by omega, by omega, by omega, by omega⟩]
  · rw [if_neg hr, if_neg (fun hc => hr (by omega))]

/-- A trip's new state is `stepState` of the carried buffers. -/
theorem step7_eq (V : Valuation τ sig (Elt Ideal)) (n : ℕ) (hn : V (Proc.devRef .tc main_v74_6) = fun _ => Scf.iv 0#32 1#32 n) :
    step_main_v74_7 V = stepState n (V (Proc.devRef .tc main_v74_1)) (V (Proc.devRef .tc main_v74_2)) (V (Proc.devRef .tc main_v74_4))
      (V (Proc.devRef .tc main_v74_5)) (V (Proc.devRef .tc main_v74_7)) := by
  unfold step_main_v74_7
  rw [hn]
  rfl

/-- A trip's new stack is `stepCross` of the carried buffers. -/
theorem step8_eq (V : Valuation τ sig (Elt Ideal)) (n : ℕ) (hn : V (Proc.devRef .tc main_v74_6) = fun _ => Scf.iv 0#32 1#32 n) :
    step_main_v74_8 V = stepCross n (V (Proc.devRef .tc main_v74_0)) (V (Proc.devRef .tc main_v74_3))
      (V (Proc.devRef .tc main_v74_7)) (V (Proc.devRef .tc main_v74_8)) := by
  unfold step_main_v74_8
  rw [hn]
  rfl

end Cert.RetRef
-- ==== Proof.Ret.RefEntry.lean ====
module

public import proofs.«01_k».proof.Proof.Ret.RefStep

set_option maxRecDepth 16384

@[expose] public section

noncomputable section

namespace Cert.RetRef

open Idealize.ShloMosaic Idealize.ShloMosaic.TcCoe Idealize.SL.Sem Idealize.ShloMosaic.StableHlo
open Cert.RetSpec Cert.RetRefIdeal Cert.RetRefIdeal.Gen Cert.RetRefIdeal.Value

variable (m : (ℓ : Loc nD τ sig) → Buf (Elt Ideal) ℓ)

/-- The projection an input array holds, by batch, position and column. -/
def projIn (x : FVec Ideal S16384x6144 .bf16) : Proj := fun b s q => x (ix2 ⟨(b : ℕ) * 8192 + s, by omega⟩ q)

/-! ## The buffers before the loop, as functions of the input -/

/-- The projection by batch. -/
def x3 (x : FVec Ideal S16384x6144 .bf16) : FVec Ideal S2x8192x6144 .f32 :=
  shapeCast S2x8192x6144 (extf .f32 x bitsLt_bf16_f32 : FVec Ideal S16384x6144 .f32) shapeCasts_S16384x6144_S2x8192x6144

/-- The gate columns. -/
def gates (x : FVec Ideal S16384x6144 .bf16) : FVec Ideal S2x8192x2048 .f32 :=
  extractStridedSlice S2x8192x2048 ![0, 0, 4096] (x3 x) slices_S2x8192x6144_S2x8192x2048_0_0_4096

/-- The queries by head and chunk. -/
def qC (x : FVec Ideal S16384x6144 .bf16) : FVec Ideal S2x4x64x128x256 .f32 :=
  shapeCast S2x4x64x128x256 (transpose S2x4x8192x256 [0, 2, 1, 3] (shapeCast S2x8192x4x256
    (extractStridedSlice S2x8192x1024 ![0, 0, 0] (x3 x) slices_S2x8192x6144_S2x8192x1024_0_0_0)
    shapeCasts_S2x8192x1024_S2x8192x4x256) transposes_S2x8192x4x256_S2x4x8192x256_0_2_1_3) shapeCasts_S2x4x8192x256_S2x4x64x128x256

/-- The keys by head and chunk. -/
def kC (x : FVec Ideal S16384x6144 .bf16) : FVec Ideal S2x4x64x128x256 .f32 :=
  shapeCast S2x4x64x128x256 (transpose S2x4x8192x256 [0, 2, 1, 3] (shapeCast S2x8192x4x256
    (extractStridedSlice S2x8192x1024 ![0, 0, 1024] (x3 x) slices_S2x8192x6144_S2x8192x1024_0_0_1024)
    shapeCasts_S2x8192x1024_S2x8192x4x256) transposes_S2x8192x4x256_S2x4x8192x256_0_2_1_3) shapeCasts_S2x4x8192x256_S2x4x64x128x256

/-- The values by head and chunk. -/
def vC (x : FVec Ideal S16384x6144 .bf16) : FVec Ideal S2x4x64x128x512 .f32 :=
  shapeCast S2x4x64x128x512 (transpose S2x4x8192x512 [0, 2, 1, 3] (shapeCast S2x8192x4x512
    (extractStridedSlice S2x8192x2048 ![0, 0, 2048] (x3 x) slices_S2x8192x6144_S2x8192x2048_0_0_2048)
    shapeCasts_S2x8192x2048_S2x8192x4x512) transposes_S2x8192x4x512_S2x4x8192x512_0_2_1_3) shapeCasts_S2x4x8192x512_S2x4x64x128x512

/-- The logarithms of the heads' decays. -/
def log4 : FVec Ideal S4 .f32 :=
  Host.log (subf (broadcastInDim S4 ![] bcast_S_S4 (constant S_ .f32 0x3F800000#32))
    (Host.exp (mulf (broadcastInDim S4 ![] bcast_S_S4 (constant S_ .f32 0x3F317218#32))
      (subf (broadcastInDim S4 ![] bcast_S_S4 (constant S_ .f32 0xC0A00000#32)) (sitofp .f32 (iotaInDim S4 32 0))))))

/-- The positions of a chunk. -/
def pos : FVec Ideal S128 .f32 := sitofp .f32 (iotaInDim S128 32 0)

/-- The distances of a chunk's positions. -/
def dist : FVec Ideal S128x128 .f32 :=
  subf (broadcastInDim S128x128 ![0, 1] bcast_S128x1_S128x128_0_1 (broadcastInDim S128x1 ![0] bcast_S128_S128x1_0 pos))
    (broadcastInDim S128x128 ![0, 1] bcast_S1x128_S128x128_0_1 (broadcastInDim S1x128 ![1] bcast_S128_S1x128_1 pos))

/-- The decays between a chunk's positions. -/
def intra : FVec Ideal S4x128x128 .f32 :=
  select (broadcastInDim S4x128x128 ![1, 2] bcast_S128x128_S4x128x128_1_2
      (cmpf .oge dist (broadcastInDim S128x128 ![] bcast_S_S128x128 (constant S_ .f32 0#32))))
    (Host.exp (mulf (broadcastInDim S4x128x128 ![0, 1, 2] bcast_S4x1x1_S4x128x128_0_1_2 (broadcastInDim S4x1x1 ![0] bcast_S4_S4x1x1_0 log4))
      (broadcastInDim S4x128x128 ![0, 1, 2] bcast_S1x128x128_S4x128x128_0_1_2 (broadcastInDim S1x128x128 ![1, 2] bcast_S128x128_S1x128x128_1_2
        (maximumf dist (broadcastInDim S128x128 ![] bcast_S_S128x128 (constant S_ .f32 0#32)))))))
    (broadcastInDim S4x128x128 ![] bcast_S_S4x128x128 (constant S_ .f32 0#32))

/-- The chunks' own part of the retention. -/
def inner (x : FVec Ideal S16384x6144 .bf16) : FVec Ideal S2x4x64x128x512 .f32 :=
  Host.dotGeneral dot_S2x4x64x128x128_S2x4x64x128x512_S2x4x64x128x512_4_3_3_4_012_012 none
    (mulf (Host.dotGeneral dot_S2x4x64x128x256_S2x4x64x128x256_S2x4x64x128x128_4_4_3_3_012_012 none (qC x) (kC x))
      (broadcastInDim S2x4x64x128x128 ![0, 1, 2, 3, 4] bcast_S1x4x1x128x128_S2x4x64x128x128_0_1_2_3_4
        (broadcastInDim S1x4x1x128x128 ![1, 2, 3, 4] bcast_S4x1x128x128_S1x4x1x128x128_1_2_3_4
          (broadcastInDim S4x1x128x128 ![0, 2, 3] bcast_S4x128x128_S4x1x128x128_0_2_3 intra)))) (vC x)

/-- The decay of the carried state at each position. -/
def qDec : FVec Ideal S1x4x128x1 .f32 :=
  broadcastInDim S1x4x128x1 ![1, 2] bcast_S4x128_S1x4x128x1_1_2 (Host.exp (mulf
    (broadcastInDim S4x128 ![0, 1] bcast_S4x1_S4x128_0_1 (broadcastInDim S4x1 ![0] bcast_S4_S4x1_0 log4))
    (broadcastInDim S4x128 ![0, 1] bcast_S1x128_S4x128_0_1 (broadcastInDim S1x128 ![1] bcast_S128_S1x128_1
      (addf pos (broadcastInDim S128 ![] bcast_S_S128 (constant S_ .f32 0x3F800000#32)))))))

/-- The decay of each key to its chunk's end. -/
def kDec : FVec Ideal S1x4x128x1 .f32 :=
  broadcastInDim S1x4x128x1 ![1, 2] bcast_S4x128_S1x4x128x1_1_2 (Host.exp (mulf
    (broadcastInDim S4x128 ![0, 1] bcast_S4x1_S4x128_0_1 (broadcastInDim S4x1 ![0] bcast_S4_S4x1_0 log4))
    (broadcastInDim S4x128 ![0, 1] bcast_S1x128_S4x128_0_1 (broadcastInDim S1x128 ![1] bcast_S128_S1x128_1
      (subf (broadcastInDim S128 ![] bcast_S_S128 (constant S_ .f32 0x42FE0000#32)) pos)))))

/-- The decay over a chunk. -/
def cDec : FVec Ideal S1x4x1x1 .f32 :=
  broadcastInDim S1x4x1x1 ![1] bcast_S4_S1x4x1x1_1 (Host.exp (mulf log4 (broadcastInDim S4 ![] bcast_S_S4 (constant S_ .f32 0x43000000#32))))

/-! ## Their elements -/

theorem x3_apply (x : FVec Ideal S16384x6144 .bf16) (b : Fin 2) (s : Fin 8192) (q : Fin 6144) : x3 x (ix3 b s q) = projIn x b s q := by
  unfold x3 projIn
  pointwise

theorem gates_apply (x : FVec Ideal S16384x6144 .bf16) (b : Fin 2) (h : Fin 4) (n : Fin 64) (i : Fin 128) (e : Fin 512) (s : Fin 8192) (y : Fin 2048)
    (hs : (s : ℕ) = n * 128 + i) (hy : (y : ℕ) = 512 * h + e) : gates x (ix3 b s y) = gAt (projIn x) b h n i e := by
  unfold gates gAt
  pointwise
  rw [x3_apply]
  congr 1
  · exact Fin.ext (by unfold rowAt; simp only; omega)
  · exact Fin.ext (by simp only; omega)

theorem qC_apply (x : FVec Ideal S16384x6144 .bf16) (b : Fin 2) (h : Fin 4) (n : Fin 64) (i : Fin 128) (d : Fin 256) :
    qC x (ix5 b h n i d) = qAt (projIn x) b h n i d := by
  unfold qC qAt
  pointwise
  rw [x3_apply]
  congr 1
  · exact Fin.ext (by unfold rowAt; simp only; omega)
  · exact Fin.ext (by simp only; omega)

theorem kC_apply (x : FVec Ideal S16384x6144 .bf16) (b : Fin 2) (h : Fin 4) (n : Fin 64) (i : Fin 128) (d : Fin 256) :
    kC x (ix5 b h n i d) = kAt (projIn x) b h n i d := by
  unfold kC kAt
  pointwise
  rw [x3_apply]
  congr 1
  · exact Fin.ext (by unfold rowAt; simp only; omega)
  · exact Fin.ext (by simp only; omega)

theorem vC_apply (x : FVec Ideal S16384x6144 .bf16) (b : Fin 2) (h : Fin 4) (n : Fin 64) (i : Fin 128) (e : Fin 512) :
    vC x (ix5 b h n i e) = vAt (projIn x) b h n i e := by
  unfold vC vAt
  pointwise
  rw [x3_apply]
  congr 1
  · exact Fin.ext (by unfold rowAt; simp only; omega)
  · exact Fin.ext (by simp only; omega)

theorem pos_apply (i : Fin 128) : pos (ix1 i) = posR i := by
  unfold pos posR
  pointwise

theorem log4_apply (h : Fin 4) : log4 (ix1 h) = logDecay h := by
  unfold log4 logDecay
  pointwise

theorem dist_apply (i j : Fin 128) : dist (ix2 i j) = diffR i j := by
  rw [diffR_eq]
  unfold dist pos posR
  pointwise

theorem intra_apply (h : Fin 4) (i j : Fin 128) : intra (ix3 h i j) = wIntra (logDecay h) i j := by
  unfold intra wIntra
  pointwise
  simp only [dist_apply, log4_apply]

theorem qDec_apply (h : Fin 4) (i : Fin 128) : qDec (ix4 0 h i 0) = wQ (logDecay h) i := by
  unfold qDec wQ
  pointwise
  simp only [pos_apply, log4_apply]

theorem kDec_apply (h : Fin 4) (i : Fin 128) : kDec (ix4 0 h i 0) = wK (logDecay h) i := by
  unfold kDec wK
  pointwise
  simp only [pos_apply, log4_apply]

theorem cDec_apply (h : Fin 4) : cDec (ix4 0 h 0 0) = wC (logDecay h) := by
  unfold cDec wC
  pointwise
  rw [log4_apply]

theorem inner_apply (x : FVec Ideal S16384x6144 .bf16) (b : Fin 2) (h : Fin 4) (n : Fin 64) (i : Fin 128) (e : Fin 512) :
    inner x (ix5 b h n i e) = ∑ j : Fin 128, (∑ d : Fin 256, qAt (projIn x) b h n i d * kAt (projIn x) b h n j d) * wIntra (logDecay h) i j * vAt (projIn x) b h n j e := by
  unfold inner
  pointwise
  simp only [qC_apply, kC_apply, vC_apply, intra_apply]

/-! ## The contents of the buffers before the loop -/

variable (m : (ℓ : Loc nD τ sig) → Buf (Elt Ideal) ℓ)

/-- The input array at launch. -/
abbrev inp (c : Dev nD) : FVec Ideal S16384x6144 .bf16 := m ((c : Thread nD τ).loc main_arg0)

theorem entry_v5 (c : Dev nD) : entryContents preI m c (Proc.devRef .tc main_v5) = gates (inp m c) := by
  simp only [entryContents, preI, afterL_cons, afterL_nil]
  after_reads_simp
  rfl

theorem entry_v46 (c : Dev nD) : entryContents preI m c (Proc.devRef .tc main_v46) = inner (inp m c) := by
  simp only [entryContents, preI, afterL_cons, afterL_nil]
  after_reads_simp
  rfl

theorem entry_0 (c : Dev nD) : entryContents preI m c (Proc.devRef .tc main_v74_0) =
    transpose S64x2x4x128x256 [2, 0, 1, 3, 4] (qC (inp m c)) transposes_S2x4x64x128x256_S64x2x4x128x256_2_0_1_3_4 := by
  simp only [entryContents, preI, afterL_cons, afterL_nil]
  after_reads_simp
  rfl

theorem entry_1 (c : Dev nD) : entryContents preI m c (Proc.devRef .tc main_v74_1) =
    transpose S64x2x4x128x256 [2, 0, 1, 3, 4] (kC (inp m c)) transposes_S2x4x64x128x256_S64x2x4x128x256_2_0_1_3_4 := by
  simp only [entryContents, preI, afterL_cons, afterL_nil]
  after_reads_simp
  rfl

theorem entry_2 (c : Dev nD) : entryContents preI m c (Proc.devRef .tc main_v74_2) =
    transpose S64x2x4x128x512 [2, 0, 1, 3, 4] (vC (inp m c)) transposes_S2x4x64x128x512_S64x2x4x128x512_2_0_1_3_4 := by
  simp only [entryContents, preI, afterL_cons, afterL_nil]
  after_reads_simp
  rfl

theorem entry_3 (c : Dev nD) : entryContents preI m c (Proc.devRef .tc main_v74_3) = qDec := by
  simp only [entryContents, preI, afterL_cons, afterL_nil]
  after_reads_simp
  rfl

theorem entry_4 (c : Dev nD) : entryContents preI m c (Proc.devRef .tc main_v74_4) = cDec := by
  simp only [entryContents, preI, afterL_cons, afterL_nil]
  after_reads_simp
  rfl

theorem entry_5 (c : Dev nD) : entryContents preI m c (Proc.devRef .tc main_v74_5) = kDec := by
  simp only [entryContents, preI, afterL_cons, afterL_nil]
  after_reads_simp
  rfl

theorem entry_7 (c : Dev nD) : entryContents preI m c (Proc.devRef .tc main_v74_7) =
    broadcastInDim S2x4x256x512 ![] bcast_S_S2x4x256x512 (constant (F := Ideal) S_ .f32 0#32) := by
  simp only [entryContents, preI, afterL_cons, afterL_nil]
  after_reads_simp
  rfl

end Cert.RetRef
-- ==== Proof.Ret.RefLoop.lean ====
module

public import proofs.«01_k».proof.Proof.Ret.RefEntry

set_option maxRecDepth 16384

@[expose] public section

noncomputable section

namespace Cert.RetRef

open Idealize.ShloMosaic Idealize.ShloMosaic.TcCoe Idealize.SL.Sem Idealize.ShloMosaic.StableHlo
open Cert.RetSpec Cert.RetRefIdeal Cert.RetRefIdeal.Gen Cert.RetRefIdeal.Value

variable (m : (ℓ : Loc nD τ sig) → Buf (Elt Ideal) ℓ)

/-! ## The buffers the trips read -/

/-- The stacks and decays are the same before every trip. -/
theorem at_0 (c : Dev nD) : ∀ k, atK m k c (Proc.devRef .tc main_v74_0) = atK m 0 c (Proc.devRef .tc main_v74_0)
  | 0 => rfl
  | k + 1 => ((trip_agree (atK m k c) main_v74_0 (by decide)).trans (STEP_main_v74_0 _)).trans (at_0 c k)
theorem at_1 (c : Dev nD) : ∀ k, atK m k c (Proc.devRef .tc main_v74_1) = atK m 0 c (Proc.devRef .tc main_v74_1)
  | 0 => rfl
  | k + 1 => ((trip_agree (atK m k c) main_v74_1 (by decide)).trans (STEP_main_v74_1 _)).trans (at_1 c k)
theorem at_2 (c : Dev nD) : ∀ k, atK m k c (Proc.devRef .tc main_v74_2) = atK m 0 c (Proc.devRef .tc main_v74_2)
  | 0 => rfl
  | k + 1 => ((trip_agree (atK m k c) main_v74_2 (by decide)).trans (STEP_main_v74_2 _)).trans (at_2 c k)
theorem at_3 (c : Dev nD) : ∀ k, atK m k c (Proc.devRef .tc main_v74_3) = atK m 0 c (Proc.devRef .tc main_v74_3)
  | 0 => rfl
  | k + 1 => ((trip_agree (atK m k c) main_v74_3 (by decide)).trans (STEP_main_v74_3 _)).trans (at_3 c k)
theorem at_4 (c : Dev nD) : ∀ k, atK m k c (Proc.devRef .tc main_v74_4) = atK m 0 c (Proc.devRef .tc main_v74_4)
  | 0 => rfl
  | k + 1 => ((trip_agree (atK m k c) main_v74_4 (by decide)).trans (STEP_main_v74_4 _)).trans (at_4 c k)
theorem at_5 (c : Dev nD) : ∀ k, atK m k c (Proc.devRef .tc main_v74_5) = atK m 0 c (Proc.devRef .tc main_v74_5)
  | 0 => rfl
  | k + 1 => ((trip_agree (atK m k c) main_v74_5 (by decide)).trans (STEP_main_v74_5 _)).trans (at_5 c k)

/-! ## The state and the stack of cross terms, trip by trip -/

/-- The state before trip `k`. -/
def stR (c : Dev nD) (k : ℕ) : FVec Ideal S2x4x256x512 .f32 := atK m k c (Proc.devRef .tc main_v74_7)

/-- The stack of cross terms before trip `k`. -/
def crR (c : Dev nD) (k : ℕ) : FVec Ideal S64x2x4x128x512 .f32 := atK m k c (Proc.devRef .tc main_v74_8)

theorem stR_zero (c : Dev nD) : stR m c 0 = broadcastInDim S2x4x256x512 ![] bcast_S_S2x4x256x512 (constant (F := Ideal) S_ .f32 0#32) := entry_7 m c

theorem stR_succ (c : Dev nD) (k : ℕ) : stR m c (k + 1) =
    stepState k (transpose S64x2x4x128x256 [2, 0, 1, 3, 4] (kC (inp m c)) transposes_S2x4x64x128x256_S64x2x4x128x256_2_0_1_3_4)
      (transpose S64x2x4x128x512 [2, 0, 1, 3, 4] (vC (inp m c)) transposes_S2x4x64x128x512_S64x2x4x128x512_2_0_1_3_4) cDec kDec (stR m c k) := by
  refine ((trip_agree (atK m k c) main_v74_7 (by decide)).trans (STEP_main_v74_7 _)).trans ?_
  rw [step7_eq _ k (atK_ctr m c k), at_1, at_2, at_4, at_5]
  rw [show atK m 0 c = entryContents preI m c from rfl, entry_1, entry_2, entry_4, entry_5]
  rfl

theorem crR_succ (c : Dev nD) (k : ℕ) : crR m c (k + 1) =
    stepCross k (transpose S64x2x4x128x256 [2, 0, 1, 3, 4] (qC (inp m c)) transposes_S2x4x64x128x256_S64x2x4x128x256_2_0_1_3_4) qDec (stR m c k) (crR m c k) := by
  refine ((trip_agree (atK m k c) main_v74_8 (by decide)).trans (STEP_main_v74_8 _)).trans ?_
  rw [step8_eq _ k (atK_ctr m c k), at_0, at_3]
  rw [show atK m 0 c = entryContents preI m c from rfl, entry_0, entry_3]
  rfl

/-- Before trip `k` the loop carries the state after `k` chunks. -/
theorem stR_apply (c : Dev nD) (b : Fin 2) (h : Fin 4) : ∀ (k : ℕ), k ≤ 64 → ∀ (d : Fin 256) (e : Fin 512),
    stR m c k (ix4 b h d e) = stAt logDecay (projIn (inp m c)) b h k d e := by
  intro k
  induction k with
  | zero =>
    intro _ d e
    rw [stR_zero]
    show _ = (0 : EReal)
    pointwise
  | succ k ih =>
    intro hk d e
    rw [stR_succ]
    refine (stepState_apply ⟨k, by omega⟩ _ _ _ _ _ b h d e).trans ?_
    show _ = stNext _ _ _ _ _ _
    unfold stNext
    rw [ih (by omega), cDec_apply]
    congr 1
    refine Finset.sum_congr rfl fun j _ => ?_
    rw [kDec_apply, ← kC_apply (inp m c) b h ⟨k, by omega⟩, ← vC_apply (inp m c) b h ⟨k, by omega⟩]
    pointwise

/-- After `k` trips the first `k` chunks' cross terms are in the stack. -/
theorem crR_apply (c : Dev nD) (b : Fin 2) (h : Fin 4) : ∀ (k : ℕ), k ≤ 64 → ∀ (r : Fin 64), (r : ℕ) < k → ∀ (i : Fin 128) (e : Fin 512),
    crR m c k (ix5 r b h i e) = (∑ d : Fin 256, qAt (projIn (inp m c)) b h r i d * stAt logDecay (projIn (inp m c)) b h r d e) * wQ (logDecay h) i := by
  intro k
  induction k with
  | zero => intro _ r hr; exact absurd hr (Nat.not_lt_zero _)
  | succ k ih =>
    intro hk r hr i e
    rw [crR_succ]
    refine (stepCross_apply ⟨k, by omega⟩ _ _ _ _ r b h i e).trans ?_
    by_cases hrk : (r : ℕ) = k
    · rw [if_pos hrk, qDec_apply]
      congr 1
      refine Finset.sum_congr rfl fun d _ => ?_
      rw [stR_apply m c b h k (by omega), hrk, ← qC_apply (inp m c) b h ⟨k, by omega⟩]
      pointwise
    · rw [if_neg hrk]
      exact ih (by omega) r (by omega) i e

/-- A buffer no trip writes is as it was at the loop's entry. -/
theorem at_kept (c : Dev nD) (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) :
    ∀ k, atK m k c (Proc.devRef .tc r) = entryContents preI m c (Proc.devRef .tc r)
  | 0 => rfl
  | k + 1 => by
    rw [show atK m (k + 1) c = afterL bodyI (after condOps (atK m k c)) from rfl]
    rw [show afterL bodyI (after condOps (atK m k c)) = after while0Ops0_5 (after while0Ops0_4 (after while0Ops0_3 (after while0Ops0_2
      (after while0Ops0_1 (after while0Ops0 (after condOps (atK m k c))))))) from rfl]
    rw [after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc, at_kept c r hc h0 h1 h2 h3 h4 h5 k]

/-! ## After the loop -/

/-- The retention: the chunks' own part and the carried part, by position. -/
def both (I : FVec Ideal S2x4x64x128x512 .f32) (A : FVec Ideal S64x2x4x128x512 .f32) : FVec Ideal S2x4x8192x512 .f32 :=
  shapeCast S2x4x8192x512 (addf I (transpose S2x4x64x128x512 [1, 2, 0, 3, 4] A transposes_S64x2x4x128x512_S2x4x64x128x512_1_2_0_3_4))
    shapeCasts_S2x4x64x128x512_S2x4x8192x512

/-- The mean over the heads' width. -/
def meanT (y : FVec Ideal S2x4x8192x512 .f32) : FVec Ideal S2x4x8192x1 .f32 :=
  Host.divf (broadcastInDim S2x4x8192x1 ![0, 1, 2] bcast_S2x4x8192_S2x4x8192x1_0_1_2
      (Host.reduceAdd y (constant S_ .f32 0#32) reducesTo_S2x4x8192x512_S2x4x8192_d3 h_S_))
    (broadcastInDim S2x4x8192x1 ![] bcast_S_S2x4x8192x1 (constant S_ .f32 0x44000000#32))

/-- The deviations from the mean. -/
def devT (y : FVec Ideal S2x4x8192x512 .f32) : FVec Ideal S2x4x8192x512 .f32 :=
  subf y (broadcastInDim S2x4x8192x512 ![0, 1, 2, 3] bcast_S2x4x8192x1_S2x4x8192x512_0_1_2_3 (meanT y))

/-- The normalization over the heads' width. -/
def normT (y : FVec Ideal S2x4x8192x512 .f32) : FVec Ideal S2x4x8192x512 .f32 :=
  mulf (devT y) (broadcastInDim S2x4x8192x512 ![0, 1, 2, 3] bcast_S2x4x8192x1_S2x4x8192x512_0_1_2_3
    (Host.rsqrt (addf (meanT (mulf (devT y) (devT y))) (broadcastInDim S2x4x8192x1 ![] bcast_S_S2x4x8192x1 (constant S_ .f32 0x358637BD#32)))))

/-- The gate's activation. -/
def siluT (g : FVec Ideal S2x8192x2048 .f32) : FVec Ideal S2x8192x2048 .f32 :=
  mulf g (Host.divf (broadcastInDim S2x8192x2048 ![] bcast_S_S2x8192x2048 (constant S_ .f32 0x3F800000#32))
    (addf (broadcastInDim S2x8192x2048 ![] bcast_S_S2x8192x2048 (constant S_ .f32 0x3F800000#32)) (Host.exp (Host.negf g))))

/-- The gated, normalized retention. -/
def result (I : FVec Ideal S2x4x64x128x512 .f32) (A : FVec Ideal S64x2x4x128x512 .f32) (g : FVec Ideal S2x8192x2048 .f32) : FVec Ideal S2x8192x2048 .bf16 :=
  truncf .bf16 (mulf (siluT g) (shapeCast S2x8192x2048 (transpose S2x8192x4x512 [0, 2, 1, 3] (normT (both I A)) transposes_S2x4x8192x512_S2x8192x4x512_0_2_1_3)
    shapeCasts_S2x8192x4x512_S2x8192x2048)) bitsLt_bf16_f32

theorem post_eq (Z : Valuation τ sig (Elt Ideal)) : afterL postI Z (Proc.devRef .tc main_v100) =
    result (Z (Proc.devRef .tc main_v46)) (Z (Proc.devRef .tc main_v74_8)) (Z (Proc.devRef .tc main_v5)) := by
  simp only [postI, afterL_cons, afterL_nil]
  after_results
  all_goals rfl

theorem both_apply (c : Dev nD) (b : Fin 2) (h : Fin 4) (n : Fin 64) (i : Fin 128) (e : Fin 512) (s : Fin 8192) (hs : (s : ℕ) = n * 128 + i) :
    both (inner (inp m c)) (crR m c 64) (ix4 b h s e) =
      raw (logDecay h) (qAt (projIn (inp m c)) b h n) (kAt (projIn (inp m c)) b h n) (vAt (projIn (inp m c)) b h n)
        (stAt logDecay (projIn (inp m c)) b h n) i e := by
  unfold both
  rw [raw, ← inner_apply, ← crR_apply m c b h 64 le_rfl n n.isLt]
  pointwise
  rw [show (⟨(s : ℕ) / 128, by omega⟩ : Fin 64) = n from Fin.ext (by simp only; omega),
    show (⟨(s : ℕ) % 128, by omega⟩ : Fin 128) = i from Fin.ext (by simp only; omega)]

theorem meanT_apply (y : FVec Ideal S2x4x8192x512 .f32) (b : Fin 2) (h : Fin 4) (s : Fin 8192) :
    meanT y (ix4 b h s 0) = mean fun e => y (ix4 b h s e) := by
  unfold meanT mean
  pointwise

theorem devT_apply (y : FVec Ideal S2x4x8192x512 .f32) (b : Fin 2) (h : Fin 4) (s : Fin 8192) (e : Fin 512) :
    devT y (ix4 b h s e) = y (ix4 b h s e) - mean fun e => y (ix4 b h s e) := by
  unfold devT
  rw [← meanT_apply]
  pointwise

theorem normT_apply (y : FVec Ideal S2x4x8192x512 .f32) (b : Fin 2) (h : Fin 4) (s : Fin 8192) (e : Fin 512) :
    normT y (ix4 b h s e) = gnorm (fun e => y (ix4 b h s e)) e := by
  unfold normT gnorm
  pointwise
  rw [meanT_apply, devT_apply]
  congr 4
  funext x
  exact congrArg₂ (· * ·) (devT_apply y b h s x) (devT_apply y b h s x)

theorem siluT_apply (g : FVec Ideal S2x8192x2048 .f32) (i : S2x8192x2048.Idx) : siluT g i = g i * Ideal.logistic (g i) := by
  unfold siluT
  pointwise
  rfl

theorem result_apply (c : Dev nD) (b : Fin 2) (n : Fin 64) (i : Fin 128) (h : Fin 4) (e : Fin 512) (s : Fin 8192) (y : Fin 2048)
    (hs : (s : ℕ) = n * 128 + i) (hy : (y : ℕ) = 512 * h + e) :
    result (inner (inp m c)) (crR m c 64) (gates (inp m c)) (ix3 b s y) = outAt logDecay (projIn (inp m c)) b n i h e := by
  unfold result
  pointwise
  rw [siluT_apply, gates_apply (inp m c) b h n i e s y hs hy,
    show (⟨(y : ℕ) / 512, by omega⟩ : Fin 4) = h from Fin.ext (by simp only; omega),
    show (⟨(y : ℕ) % 512, by omega⟩ : Fin 512) = e from Fin.ext (by simp only; omega), normT_apply]
  unfold outAt rowOut
  congr 2
  funext x
  exact both_apply m c b h n i x s hs

/-- What the reference's result holds at the end: `result` of the buffers before the loop and the stack after it. -/
theorem final_eq (c : Dev nD) : finalContents condOps preI bodyI postI 64 m c (Proc.devRef .tc main_v100) =
    result (inner (inp m c)) (crR m c 64) (gates (inp m c)) := by
  refine (post_eq (after condOps (atK m 64 c))).trans ?_
  rw [after_of_writes_sub condOps _ condOps_writes (r := main_v46) (by decide), after_of_writes_sub condOps _ condOps_writes (r := main_v5) (by decide),
    after_of_writes_sub condOps _ condOps_writes (r := main_v74_8) (by decide),
    at_kept m c main_v46 (by decide) (by decide) (by decide) (by decide) (by decide) (by decide) (by decide),
    at_kept m c main_v5 (by decide) (by decide) (by decide) (by decide) (by decide) (by decide) (by decide), entry_v46, entry_v5]
  rfl

/-- The operations after the loop do not write the argument. -/
theorem post_arg (Z : Valuation τ sig (Elt Ideal)) : afterL postI Z (Proc.devRef .tc main_arg0) = Z (Proc.devRef .tc main_arg0) := by
  simp only [postI, afterL_cons, afterL_nil]
  after_results

/-- The argument is unchanged. -/
theorem final_arg (c : Dev nD) : finalContents condOps preI bodyI postI 64 m c (Proc.devRef .tc main_arg0) = m ((c : Thread nD τ).loc main_arg0) := by
  refine (post_arg (after condOps (atK m 64 c))).trans ?_
  rw [after_of_writes_sub condOps _ condOps_writes (by decide),
    at_kept m c main_arg0 (by decide) (by decide) (by decide) (by decide) (by decide) (by decide) (by decide)]
  rw [show entryContents preI m c = after hostOps0_2 (after hostOps0_1 (after hostOps0 (launchContents m c))) from rfl]
  rw [after_of_writes_sub hostOps0_2 _ hostOps0_2_writes (by decide), after_of_writes_sub hostOps0_1 _ hostOps0_1_writes (by decide),
    after_of_writes_sub hostOps0 _ hostOps0_writes (by decide)]

end Cert.RetRef
-- ==== Proof.Ret.Claim.lean ====
module

public import proofs.«01_k».proof.Proof.Ret.KernelFold
public import proofs.«01_k».proof.Proof.Ret.RefLoop
public import proofs.«01_k».proof.Defs

set_option maxRecDepth 16384

@[expose] public section

noncomputable section

namespace Cert.RetClaim

open Idealize.ShloMosaic Idealize.ShloMosaic.TcCoe Idealize.SL.Sem Idealize.ShloMosaic.StableHlo
open Cert.RetSpec

/-- The reference's run: its result is the gated retention written out by its operations, the argument is unchanged. -/
theorem ref_run (m : (ℓ : Loc RetRefIdeal.nD RetRefIdeal.τ RetRefIdeal.sig) → Buf (Elt Ideal) ℓ) (ρ : Dev RetRefIdeal.nD → PrngReg) :
    θ_run (RetRefIdeal.defs (F := Ideal)) (onTc (τ := RetRefIdeal.τ) (RetRefIdeal.main (F := Ideal))) ⟨m, fun _ => 0, ρ⟩ fun r => ∀ c : Dev RetRefIdeal.nD,
      r.2.mem ((c : Thread RetRefIdeal.nD RetRefIdeal.τ).loc RetRefIdeal.main_v100) =
          RetRef.result (RetRef.inner (RetRef.inp m c)) (RetRef.crR m c 64) (RetRef.gates (RetRef.inp m c))
        ∧ r.2.mem ((c : Thread RetRefIdeal.nD RetRefIdeal.τ).loc RetRefIdeal.main_arg0) = m ((c : Thread RetRefIdeal.nD RetRefIdeal.τ).loc RetRefIdeal.main_arg0) :=
  (θ_run _ _ _).mono (fun _ h c => ⟨(h c RetRefIdeal.main_v100 rfl).trans (RetRef.final_eq m c), (h c RetRefIdeal.main_arg0 rfl).trans (RetRef.final_arg m c)⟩)
    (RetRefIdeal.Value.run_fold m ρ)

/-- The reference keeps its argument and leaves every counter at zero. -/
theorem ref_frame : quiescent_RetRefIdeal (hRetRefIdeal := RetRefIdeal.Gen.facts) := fun m ρ _ =>
  (θ_run _ _ _).mono (fun r h => ⟨fun c => (h c).2, sem_eq_zero_of_no_sems rfl r.2⟩) (ref_run m ρ)

/-- The kernel's output array and the reference's result are the same function of the argument. -/
theorem result_eq (m : (ℓ : Loc RetIdeal.nD RetIdeal.τ RetIdeal.sig) → Buf (Elt Ideal) ℓ)
    (m' : (ℓ : Loc RetRefIdeal.nD RetRefIdeal.τ RetRefIdeal.sig) → Buf (Elt Ideal) ℓ) (c : Dev RetIdeal.nD)
    (h : m' ((c : Thread RetRefIdeal.nD RetRefIdeal.τ).loc RetRefIdeal.main_arg0) = m ((c : Thread RetIdeal.nD RetIdeal.τ).loc RetIdeal.main_arg0)) :
    RetRef.result (RetRef.inner (RetRef.inp m' c)) (RetRef.crR m' c 64) (RetRef.gates (RetRef.inp m' c)) = RetIdeal.Value.G5 m c := by
  have hX : RetRef.projIn (RetRef.inp m' c) = RetKernel.projOf m c := by
    funext b s q
    exact congrFun h _
  funext idx
  obtain ⟨b, s, y, rfl⟩ : ∃ b s y, idx = ix3 b s y := ⟨_, _, _, eq_ix3 idx⟩
  have hs : (s : ℕ) < 8192 := s.isLt
  have hy : (y : ℕ) < 2048 := y.isLt
  refine (RetRef.result_apply m' c b ⟨s / 128, by omega⟩ ⟨s % 128, by omega⟩ ⟨y / 512, by omega⟩ ⟨y % 512, by omega⟩ s y (by simp only; omega) (by simp only; omega)).trans ?_
  rw [hX]
  exact (RetKernel.G5_apply m c b ⟨s / 128, by omega⟩ ⟨s % 128, by omega⟩ ⟨y / 512, by omega⟩ ⟨y % 512, by omega⟩ s y (by simp only; omega) (by simp only; omega)).symm

/-- The kernel computes the reference's result over the extended reals. -/
theorem value : algebraic_RetIdeal_RetRefIdeal (hRetIdeal := RetIdeal.Gen.facts) (hRetRefIdeal := RetRefIdeal.Gen.facts) := fun m ρ m' ρ' _ h =>
  ⟨fun c => RetIdeal.Value.G5 m c, RetIdeal.Value.run m ρ,
    (θ_run _ _ _).mono (fun _ hr c => ⟨(hr c).1.trans (result_eq m m' c (h c)), (hr c).2⟩) (ref_run m' ρ')⟩

end Cert.RetClaim
-- ==== Proof.EvenTail.Spec.lean ====
module

public import proofs.«01_k».proof.Defs
public import Idealize.ShloMosaic.Lib.IdealHost
public import Idealize.ShloMosaic.Lib.ValueIdx

set_option maxRecDepth 16384

@[expose] public section

noncomputable section

namespace Cert.TailSpec

open Idealize.ShloMosaic Idealize.ShloMosaic.TcCoe Idealize.SL.Sem

/-- The gated values of one sequence, with thirty rows of zeros before it: row `p` of column `q`. -/
def glu (x : Fin 16384 → Fin 1024 → EReal) (b : Fin 2) (p : ℕ) (q : Fin 512) : EReal :=
  if h : 30 ≤ p ∧ p < 8222 then
    x ⟨b * 8192 + (p - 30), by omega⟩ ⟨0 + q, by omega⟩ * Ideal.logistic (x ⟨b * 8192 + (p - 30), by omega⟩ ⟨512 + q, by omega⟩)
  else 0

/-- Row `j` of the convolution's weight. -/
def tap (w : Fin 31 → Fin 512 → EReal) (j : ℕ) (q : Fin 512) : EReal := if h : j < 31 then w ⟨j, h⟩ q else 0

/-- One element of the convolution: the sum of thirty-one products and the bias. -/
def convAt (x : Fin 16384 → Fin 1024 → EReal) (w : Fin 31 → Fin 512 → EReal) (bias : Fin 512 → EReal) (b : Fin 2) (s : ℕ) (q : Fin 512) : EReal :=
  ∑ j ∈ Finset.range 31, glu x b (j + s) q * tap w j q + bias q

/-- A row minus its mean. -/
def cen (y : Fin 512 → EReal) (q : Fin 512) : EReal := y q - Ideal.div (∑ k : Fin 512, y k) (Ideal.ofBits FTy.f32 0x44000000#32)

/-- A row normed, scaled and shifted. -/
def normed (g be : Fin 512 → EReal) (y : Fin 512 → EReal) (q : Fin 512) : EReal :=
  cen y q * Ideal.rsqrt (Ideal.div (∑ k : Fin 512, cen y k * cen y k) (Ideal.ofBits FTy.f32 0x44000000#32) + Ideal.ofBits FTy.f32 0x358637BD#32) * g q + be q

/-- A row after the norm and the gate of itself. -/
def tail (g be : Fin 512 → EReal) (y : Fin 512 → EReal) (q : Fin 512) : EReal := normed g be y q * Ideal.logistic (normed g be y q)

/-- One element of the output projection: the residual, the attention's share, the convolution's share. -/
def outOf (h : EReal) (a : Fin 512 → EReal) (y : Fin 512 → EReal) (w : Fin 1024 → EReal) : EReal :=
  h + (∑ k : Fin 512, a k * w ⟨k, by omega⟩ + ∑ k : Fin 512, y k * w ⟨512 + k, by omega⟩)

/-- One element of the even layer's end. -/
def tailAt (h : Fin 16384 → Fin 1024 → EReal) (a : Fin 4 → Fin 16384 → Fin 128 → EReal) (x : Fin 16384 → Fin 1024 → EReal) (cw : Fin 31 → Fin 512 → EReal)
    (cb cg cbe : Fin 512 → EReal) (w : Fin 1024 → Fin 1024 → EReal) (r : Fin 16384) (q : Fin 1024) : EReal :=
  outOf (h r q) (fun k => a ⟨(k : ℕ) / 128, by omega⟩ r ⟨(k : ℕ) % 128, Nat.mod_lt _ (by decide)⟩)
    (tail cg cbe (convAt x cw cb ⟨(r : ℕ) / 8192, by omega⟩ ((r : ℕ) % 8192))) (fun k => w k q)

end Cert.TailSpec
-- ==== Proof.EvenTail.Kernel.lean ====
module

public import proofs.«01_k».proof.Proof.Gen.EvenTailIdeal.Value
public import proofs.«01_k».proof.Proof.EvenTail.Spec
public import Idealize.ShloMosaic.Lib.Pipeline.ValueKit
public import Idealize.ShloMosaic.Lib.Pipeline.ReadBack
public import Idealize.ShloMosaic.Lib.Claim
public import Idealize.ShloMosaic.Lib.Pointwise

set_option maxRecDepth 16384

@[expose] public section

noncomputable section

namespace Cert.EvenTailKernel

open Idealize.ShloMosaic Idealize.ShloMosaic.TcCoe Idealize.SL.Sem
open Cert.TailSpec Cert.EvenTailIdeal Cert.EvenTailIdeal.Gen Cert.EvenTailIdeal.Value

variable (m : (ℓ : Loc nD τ sig) → Buf (Elt Ideal) ℓ)

/-- What a point carries. -/
abbrev St := Vec Ideal S512x1024 .f32 × Vec Ideal S1024x1024 .bf16 × Vec Ideal S544x512 .f32

/-- The output rows from their parts at an index. -/
theorem pay2_apply (v : FVec Ideal S512x1024 .f32) (y : FVec Ideal S512x512 .bf16) (w : FVec Ideal S512x1024 .bf16) (h : FVec Ideal S512x1024 .f32) (i : Fin 512) (q : Fin 1024) :
    k0_pay2 (F := Ideal) v y w h (ix2 i q) = (h (ix2 i q) : EReal) + (v (ix2 i q) + ∑ k : Fin 512, (y (ix2 i k) : EReal) * w (ix2 k q)) := by
  pointwise [k0_pay2]

/-- The attention's share at an index. -/
theorem pay4_apply (a : Fin 4 → FVec Ideal S1x512x128 .bf16) (w : FVec Ideal S512x1024 .bf16) (i : Fin 512) (q : Fin 1024) :
    k0_pay4 (F := Ideal) (a 0) (a 1) (a 2) (a 3) w (ix2 i q) = ∑ k : Fin 512, (a ⟨(k : ℕ) / 128, by omega⟩ (ix3 0 i ⟨(k : ℕ) % 128, Nat.mod_lt _ (by decide)⟩) : EReal) * w (ix2 k q) := by
  pointwise [k0_pay4]
  refine Finset.sum_congr rfl fun k _ => congrArg (· * _) ?_
  have hk := k.isLt
  have e : ∀ (j : Fin 4) (l : Fin 128), (j : ℕ) = (k : ℕ) / 128 → (l : ℕ) = (k : ℕ) % 128 →
      a j (ix3 0 i l) = a ⟨(k : ℕ) / 128, by omega⟩ (ix3 0 i ⟨(k : ℕ) % 128, Nat.mod_lt _ (by decide)⟩) := fun j l hj hl => by
    rw [show j = ⟨(k : ℕ) / 128, by omega⟩ from Fin.ext hj, show l = ⟨(k : ℕ) % 128, Nat.mod_lt _ (by decide)⟩ from Fin.ext hl]
  by_cases c0 : (k : ℕ) < 128
  · rw [dif_pos c0]; exact e 0 _ (show 0 = _ by omega) (show (k : ℕ) = _ by omega)
  rw [dif_neg c0]
  by_cases c1 : (k : ℕ) - 128 < 128
  · rw [dif_pos c1]; exact e 1 _ (show 1 = _ by omega) (show (k : ℕ) - 128 = _ by omega)
  rw [dif_neg c1]
  by_cases c2 : (k : ℕ) - 128 - 128 < 128
  · rw [dif_pos c2]; exact e 2 _ (show 2 = _ by omega) (show (k : ℕ) - 128 - 128 = _ by omega)
  rw [dif_neg c2]
  exact e 3 _ (show 3 = _ by omega) (show (k : ℕ) - 128 - 128 - 128 = _ by omega)

/-- The output rows at an index, from the values of their parts there. -/
theorem out_parts (a0 a1 a2 a3 : FVec Ideal S1x512x128 .bf16) (w1 w2 : FVec Ideal S512x1024 .bf16) (y : FVec Ideal S512x512 .bf16) (h : FVec Ideal S512x1024 .f32)
    (i : Fin 512) (q : Fin 1024) (a : Fin 4 → Fin 128 → EReal) (Y : Fin 512 → EReal) (w : Fin 1024 → EReal)
    (e0 : ∀ l, a0 (ix3 0 i l) = a 0 l) (e1 : ∀ l, a1 (ix3 0 i l) = a 1 l) (e2 : ∀ l, a2 (ix3 0 i l) = a 2 l) (e3 : ∀ l, a3 (ix3 0 i l) = a 3 l)
    (hY : ∀ k, y (ix2 i k) = Y k) (h1 : ∀ k : Fin 512, w1 (ix2 k q) = w ⟨k, by omega⟩) (h2 : ∀ k : Fin 512, w2 (ix2 k q) = w ⟨512 + k, by omega⟩) :
    k0_pay2 (F := Ideal) (k0_pay4 a0 a1 a2 a3 w1) y w2 h (ix2 i q)
      = outOf (h (ix2 i q)) (fun k => a ⟨(k : ℕ) / 128, by omega⟩ ⟨(k : ℕ) % 128, Nat.mod_lt _ (by decide)⟩) Y w := by
  unfold outOf
  rw [pay2_apply]
  refine congrArg₂ (fun u v : EReal => (h (ix2 i q) : EReal) + (u + v)) ((pay4_apply ![a0, a1, a2, a3] w1 i q).trans (Finset.sum_congr rfl fun k _ => ?_))
    (Finset.sum_congr rfl fun k _ => by rw [hY, h2])
  rw [h1]
  refine congrArg (· * _) ?_
  have e : ∀ (j : Fin 4) l, ![a0, a1, a2, a3] j (ix3 0 i l) = a j l := fun j l => by
    fin_cases j
    · exact e0 l
    · exact e1 l
    · exact e2 l
    · exact e3 l
  exact e _ _

/-- The buffer of gated rows: the rows of the tile before, then the tile's own. -/
def abuf (halo : FVec Ideal S32x512 .f32) (v g : FVec Ideal S512x512 .bf16) : FVec Ideal S544x512 .f32 := fun y =>
  if h : (y 0 : ℕ) < 32 then halo (ix2 ⟨y 0, h⟩ (y 1))
  else (v (ix2 ⟨(y 0 : ℕ) - 32, by have := (y 0).isLt; change (y 0 : ℕ) < 544 at this; omega⟩ (y 1)) : EReal) * Ideal.logistic (g (ix2 ⟨(y 0 : ℕ) - 32, by have := (y 0).isLt; change (y 0 : ℕ) < 544 at this; omega⟩ (y 1)))

/-- The two stores that fill it. -/
theorem canon_abuf (halo : FVec Ideal S32x512 .f32) (v g : FVec Ideal S512x512 .bf16) (h2) :
    View.canon (Val := Elt Ideal) (s := S544x512) (e := .f32) [⟨Rect.unit (s := S544x512) ![32, 0] ![512, 512] inb_S544x512_S512x512_32_0, shapeCast S512x512 (k0_pay7 (F := Ideal) v g) h2⟩,
      ⟨Rect.unit (s := S544x512) ![0, 0] ![32, 512] inb_S544x512_S32x512_0_0, halo⟩] = abuf halo v g := by
  funext y
  obtain ⟨p, q, rfl⟩ : ∃ p q, y = ix2 p q := ⟨_, _, eq_ix2 y⟩
  canon_tiles x hx using View.cover_of_tiledBy _ ![32, 512] (by sl_kernel_rfl) (ix2 p q)
  · obtain ⟨a, b, rfl⟩ : ∃ a b, x = ix2 a b := ⟨_, _, eq_ix2 x⟩
    change (p : ℕ) = 32 + (a : ℕ) at hx0
    obtain rfl : q = b := Fin.ext hx1
    have ea : (⟨(p : ℕ) - 32, by omega⟩ : Fin 512) = a := Fin.ext (show (p : ℕ) - 32 = a by omega)
    refine Eq.trans ?_ (dif_neg (show ¬(p : ℕ) < 32 by omega)).symm
    show _ = (v (ix2 ⟨(p : ℕ) - 32, by omega⟩ q) : EReal) * Ideal.logistic (g (ix2 ⟨(p : ℕ) - 32, by omega⟩ q))
    rw [ea]
    pointwise [k0_pay7]
  · obtain ⟨a, b, rfl⟩ : ∃ a b, x = ix2 a b := ⟨_, _, eq_ix2 x⟩
    change (p : ℕ) = (a : ℕ) at hx0
    obtain rfl : q = b := Fin.ext hx1
    refine Eq.trans ?_ (dif_pos (show (p : ℕ) < 32 by omega)).symm
    exact congrArg (fun z => halo (ix2 z q)) (Fin.ext hx0.symm)

/-- Seven copies of the buffer, each one row further. -/
def shifts (A : FVec Ideal S544x512 .f32) : FVec Ideal S7x536x512 .f32 := fun y =>
  A (ix2 ⟨(y 0 : ℕ) + 1 + y 1, by have h0 := (y 0).isLt; have h1 := (y 1).isLt; change (y 0 : ℕ) < 7 at h0; change (y 1 : ℕ) < 536 at h1; omega⟩ (y 2))

/-- The seven stores that fill them. -/
theorem canon_shifts (A : FVec Ideal S544x512 .f32) :
    View.canon (Val := Elt Ideal) (s := S7x536x512) (e := .f32) [⟨Rect.unit ![6, 0, 0] ![1, 536, 512] inb_S7x536x512_S1x536x512_6_0_0, shapeCast S1x536x512 (fun j => A ((Rect.unit (s := S544x512) ![7, 0] ![536, 512] inb_S544x512_S536x512_7_0).idx j)) shapeCasts_S536x512_S1x536x512⟩, ⟨Rect.unit ![5, 0, 0] ![1, 536, 512] inb_S7x536x512_S1x536x512_5_0_0, shapeCast S1x536x512 (fun j => A ((Rect.unit (s := S544x512) ![6, 0] ![536, 512] inb_S544x512_S536x512_6_0).idx j)) shapeCasts_S536x512_S1x536x512⟩, ⟨Rect.unit ![4, 0, 0] ![1, 536, 512] inb_S7x536x512_S1x536x512_4_0_0, shapeCast S1x536x512 (fun j => A ((Rect.unit (s := S544x512) ![5, 0] ![536, 512] inb_S544x512_S536x512_5_0).idx j)) shapeCasts_S536x512_S1x536x512⟩, ⟨Rect.unit ![3, 0, 0] ![1, 536, 512] inb_S7x536x512_S1x536x512_3_0_0, shapeCast S1x536x512 (fun j => A ((Rect.unit (s := S544x512) ![4, 0] ![536, 512] inb_S544x512_S536x512_4_0).idx j)) shapeCasts_S536x512_S1x536x512⟩, ⟨Rect.unit ![2, 0, 0] ![1, 536, 512] inb_S7x536x512_S1x536x512_2_0_0, shapeCast S1x536x512 (fun j => A ((Rect.unit (s := S544x512) ![3, 0] ![536, 512] inb_S544x512_S536x512_3_0).idx j)) shapeCasts_S536x512_S1x536x512⟩, ⟨Rect.unit ![1, 0, 0] ![1, 536, 512] inb_S7x536x512_S1x536x512_1_0_0, shapeCast S1x536x512 (fun j => A ((Rect.unit (s := S544x512) ![2, 0] ![536, 512] inb_S544x512_S536x512_2_0).idx j)) shapeCasts_S536x512_S1x536x512⟩, ⟨Rect.unit ![0, 0, 0] ![1, 536, 512] inb_S7x536x512_S1x536x512_0_0_0, shapeCast S1x536x512 (fun j => A ((Rect.unit (s := S544x512) ![1, 0] ![536, 512] inb_S544x512_S536x512_1_0).idx j)) shapeCasts_S536x512_S1x536x512⟩] = shifts A := by
  funext y
  obtain ⟨s, p, q, rfl⟩ : ∃ s p q, y = ix3 s p q := ⟨_, _, _, eq_ix3 y⟩
  canon_tiles x hx using View.cover_of_tiledBy _ ![1, 536, 512] (by sl_kernel_rfl) (ix3 s p q)
  all_goals
    obtain ⟨a, b, d, rfl⟩ : ∃ a b d, x = ix3 a b d := ⟨_, _, _, eq_ix3 x⟩
    obtain rfl : a = 0 := Subsingleton.elim _ _
    pointwise
    refine congrArg A (congrArg₂ (fun u v => (ix2 u v : S544x512.Idx)) (Fin.ext ?_) (Fin.ext hx2.symm))
    change (s : ℕ) = _ at hx0
    change (p : ℕ) = (b : ℕ) at hx1
    refine Eq.trans ?_ (congrArg₂ (· + 1 + ·) hx0 hx1).symm
    first
    | exact congrArg (· + (b : ℕ)) (show _ + 1 = (_ + 0) + 1 from rfl)
    | rfl

/-- Row `p` of the buffer. -/
def aAt (A : FVec Ideal S544x512 .f32) (p : ℕ) (q : Fin 512) : EReal := if h : p < 544 then A (ix2 ⟨p, h⟩ q) else 0

/-- Row `j` of the convolution's weight window. -/
def wAt (W : FVec Ideal S32x512 .f32) (j : ℕ) (q : Fin 512) : EReal := if h : j < 32 then W (ix2 ⟨j, h⟩ q) else 0

theorem aAt_eq (A : FVec Ideal S544x512 .f32) (p p' : ℕ) (h : p < 544) (q : Fin 512) (e : p = p') : A (ix2 ⟨p, h⟩ q) = aAt A p' q := by
  subst e
  unfold aAt
  rw [dif_pos h]

/-- The convolution as the kernel adds it up, at row `i` of the tile. -/
def convV (A : FVec Ideal S544x512 .f32) (W : FVec Ideal S32x512 .f32) (b : FVec Ideal S1x512 .f32) (i : ℕ) (q : Fin 512) : EReal :=
  ∑ j ∈ Finset.range 31, wAt W j q * aAt A (j + 2 + i) q + b (ix2 0 q)

/-- Thirty-one terms added one by one to a first one. -/
theorem sum31 (b : EReal) (f : ℕ → EReal) :
    b + f 0 + f 1 + f 2 + f 3 + f 4 + f 5 + f 6 + f 7 + f 8 + f 9 + f 10 + f 11 + f 12 + f 13 + f 14 + f 15 + f 16 + f 17 + f 18 + f 19 + f 20 + f 21 + f 22 + f 23
      + f 24 + f 25 + f 26 + f 27 + f 28 + f 29 + f 30 = ∑ j ∈ Finset.range 31, f j + b := by
  rw [add_comm (∑ j ∈ Finset.range 31, f j) b]
  simp only [Finset.sum_range_succ, Finset.range_zero, Finset.sum_empty, zero_add, ← add_assoc]

/-- The same sum, written out. -/
theorem convV_expand (A : FVec Ideal S544x512 .f32) (W : FVec Ideal S32x512 .f32) (b : FVec Ideal S1x512 .f32) (i : ℕ) (q : Fin 512) :
    convV A W b i q = (b (ix2 0 q) : EReal) + W (ix2 0 q) * aAt A (0 + 2 + i) q + W (ix2 1 q) * aAt A (1 + 2 + i) q + W (ix2 2 q) * aAt A (2 + 2 + i) q + W (ix2 3 q) * aAt A (3 + 2 + i) q + W (ix2 4 q) * aAt A (4 + 2 + i) q + W (ix2 5 q) * aAt A (5 + 2 + i) q
       + W (ix2 6 q) * aAt A (6 + 2 + i) q + W (ix2 7 q) * aAt A (7 + 2 + i) q + W (ix2 8 q) * aAt A (8 + 2 + i) q + W (ix2 9 q) * aAt A (9 + 2 + i) q + W (ix2 10 q) * aAt A (10 + 2 + i) q + W (ix2 11 q) * aAt A (11 + 2 + i) q
       + W (ix2 12 q) * aAt A (12 + 2 + i) q + W (ix2 13 q) * aAt A (13 + 2 + i) q + W (ix2 14 q) * aAt A (14 + 2 + i) q + W (ix2 15 q) * aAt A (15 + 2 + i) q + W (ix2 16 q) * aAt A (16 + 2 + i) q + W (ix2 17 q) * aAt A (17 + 2 + i) q
       + W (ix2 18 q) * aAt A (18 + 2 + i) q + W (ix2 19 q) * aAt A (19 + 2 + i) q + W (ix2 20 q) * aAt A (20 + 2 + i) q + W (ix2 21 q) * aAt A (21 + 2 + i) q + W (ix2 22 q) * aAt A (22 + 2 + i) q + W (ix2 23 q) * aAt A (23 + 2 + i) q
       + W (ix2 24 q) * aAt A (24 + 2 + i) q + W (ix2 25 q) * aAt A (25 + 2 + i) q + W (ix2 26 q) * aAt A (26 + 2 + i) q + W (ix2 27 q) * aAt A (27 + 2 + i) q + W (ix2 28 q) * aAt A (28 + 2 + i) q + W (ix2 29 q) * aAt A (29 + 2 + i) q
       + W (ix2 30 q) * aAt A (30 + 2 + i) q := by
  unfold convV
  rw [← sum31]
  rfl

theorem add_mul_congr {x y w a a' : EReal} (h : x = y) (e : a = a') : x + w * a = y + w * a' := by
  rw [h, e]

/-- The one store of the cast weight. -/
theorem canon_w (X : FVec Ideal S1024x1024 .bf16) :
    View.canon (Val := Elt Ideal) (s := S1024x1024) (e := .bf16) [⟨Rect.unit (s := S1024x1024) ![0, 0] ![1024, 1024] inb_S1024x1024_S1024x1024_0_0, X⟩] = X := by
  funext y
  obtain ⟨p, q, rfl⟩ : ∃ p q, y = ix2 p q := ⟨_, _, eq_ix2 y⟩
  canon_tiles x hx
  exact congrArg X (funext fun a => Fin.ext (match a with | ⟨0, _⟩ => hx0.symm | ⟨1, _⟩ => hx1.symm))

/-- Rows centred by their mean, as printed. -/
def cenV (y : FVec Ideal S64x512 .f32) : FVec Ideal S64x512 .f32 :=
  subf y (broadcastTo S64x512 (divf (shapeCast S64x1 (multiReduction .add [1] S64 y 0x00000000#32 reduces_S64x512_S64 (.inl rfl) rfl) shapeCasts_S64_S64x1)
    (broadcast S64x1 (Scalar.ofBits .f32 0x44000000#32))) broadcasts_S64x1_S64x512)

/-- Rows normed, scaled and shifted, as printed. -/
def normV (y : FVec Ideal S64x512 .f32) (g be : FVec Ideal S1x512 .f32) : FVec Ideal S64x512 .f32 :=
  addf (mulf (mulf (cenV y) (broadcastTo S64x512 (rsqrt (addf (divf (shapeCast S64x1 (multiReduction .add [1] S64 (mulf (cenV y) (cenV y)) 0x00000000#32
      reduces_S64x512_S64 (.inl rfl) rfl) shapeCasts_S64_S64x1) (broadcast S64x1 (Scalar.ofBits .f32 0x44000000#32)))
      (broadcast S64x1 (Scalar.ofBits .f32 0x358637BD#32)))) broadcasts_S64x1_S64x512))
    (broadcastTo S64x512 (shapeCast S1x512 g shapeCasts_S1x512_S1x512) broadcasts_S1x512_S64x512))
    (broadcastTo S64x512 (shapeCast S1x512 be shapeCasts_S1x512_S1x512) broadcasts_S1x512_S64x512)

/-- What is stored of a piece of sixty-four rows of the convolution. -/
def tailV (y : FVec Ideal S64x512 .f32) (g be : FVec Ideal S1x512 .f32) : FVec Ideal S64x512 .bf16 :=
  shapeCast S64x512 (truncf .bf16 (mulf (normV y g be) (logistic (normV y g be))) bitsLt_bf16_f32) shapeCasts_S64x512_S64x512

theorem cenV_apply (y : FVec Ideal S64x512 .f32) (a : Fin 64) (q : Fin 512) : cenV y (ix2 a q) = cen (fun k => y (ix2 a k)) q := by
  unfold cen
  pointwise [cenV]

theorem normV_apply (y : FVec Ideal S64x512 .f32) (g be : FVec Ideal S1x512 .f32) (a : Fin 64) (q : Fin 512) :
    normV y g be (ix2 a q) = normed (fun k => g (ix2 0 k)) (fun k => be (ix2 0 k)) (fun k => y (ix2 a k)) q := by
  unfold normed
  simp only [← cenV_apply]
  generalize hC : cenV y = C
  unfold normV
  rw [hC]
  pointwise

theorem tailV_apply (y : FVec Ideal S64x512 .f32) (g be : FVec Ideal S1x512 .f32) (a : Fin 64) (q : Fin 512) :
    tailV y g be (ix2 a q) = tail (fun k => g (ix2 0 k)) (fun k => be (ix2 0 k)) (fun k => y (ix2 a k)) q := by
  unfold tail
  rw [← normV_apply]
  pointwise [tailV]

theorem tail_congr {g g' be be' y y' : Fin 512 → EReal} (hg : ∀ k, g k = g' k) (hb : ∀ k, be k = be' k) (hy : ∀ k, y k = y' k) (k : Fin 512) :
    tail g be y k = tail g' be' y' k := by
  rw [funext hg, funext hb, funext hy]

/-- The eight stores of sixty-four rows each, read back at an index. -/
theorem canon_rows (u0 u1 u2 u3 u4 u5 u6 u7 : FVec Ideal S64x512 .bf16) (Y : ℕ → Fin 512 → EReal) (inb)
    (h0 : ∀ (a : Fin 64) k, u0 (ix2 a k) = Y (0 + a) k)
    (h1 : ∀ (a : Fin 64) k, u1 (ix2 a k) = Y (64 + a) k)
    (h2 : ∀ (a : Fin 64) k, u2 (ix2 a k) = Y (128 + a) k)
    (h3 : ∀ (a : Fin 64) k, u3 (ix2 a k) = Y (192 + a) k)
    (h4 : ∀ (a : Fin 64) k, u4 (ix2 a k) = Y (256 + a) k)
    (h5 : ∀ (a : Fin 64) k, u5 (ix2 a k) = Y (320 + a) k)
    (h6 : ∀ (a : Fin 64) k, u6 (ix2 a k) = Y (384 + a) k)
    (h7 : ∀ (a : Fin 64) k, u7 (ix2 a k) = Y (448 + a) k) (i : Fin 512) (k : Fin 512) :
    View.canon (Val := Elt Ideal) (s := S512x512) (e := .bf16) [⟨Rect.unit (s := S512x512) ![448, 0] ![64, 512] inb_S512x512_S64x512_448_0, u7⟩, ⟨Rect.unit (s := S512x512) ![384, 0] ![64, 512] inb_S512x512_S64x512_384_0, u6⟩, ⟨Rect.unit (s := S512x512) ![320, 0] ![64, 512] inb_S512x512_S64x512_320_0, u5⟩, ⟨Rect.unit (s := S512x512) ![256, 0] ![64, 512] inb_S512x512_S64x512_256_0, u4⟩, ⟨Rect.unit (s := S512x512) ![192, 0] ![64, 512] inb_S512x512_S64x512_192_0, u3⟩, ⟨Rect.unit (s := S512x512) ![128, 0] ![64, 512] inb_S512x512_S64x512_128_0, u2⟩, ⟨Rect.unit (s := S512x512) ![64, 0] ![64, 512] inb_S512x512_S64x512_64_0, u1⟩, ⟨Rect.unit (s := S512x512) ![0, 0] ![64, 512] inb_S512x512_S64x512_0_0, u0⟩] ((Rect.unit (s := S512x512) ![0, 0] ![512, 512] inb).idx (ix2 i k)) = Y i k := by
  refine (congrArg (View.canon _) (show _ = (ix2 i k : S512x512.Idx) from ?_)).trans ?_
  · funext z
    apply Fin.ext
    match z with
    | ⟨0, _⟩ => exact (show 0 + 1 * (i : ℕ) = i by omega)
    | ⟨1, _⟩ => exact (show 0 + 1 * (k : ℕ) = k by omega)
  canon_tiles x hx using View.cover_of_tiledBy _ ![64, 512] (by sl_kernel_rfl) (ix2 i k)
  all_goals
    obtain ⟨a, b, rfl⟩ : ∃ a b, x = ix2 a b := ⟨_, _, eq_ix2 x⟩
    obtain rfl : k = b := Fin.ext hx1
  · rw [h7, show (i : ℕ) = 448 + (a : ℕ) from hx0]
  · rw [h6, show (i : ℕ) = 384 + (a : ℕ) from hx0]
  · rw [h5, show (i : ℕ) = 320 + (a : ℕ) from hx0]
  · rw [h4, show (i : ℕ) = 256 + (a : ℕ) from hx0]
  · rw [h3, show (i : ℕ) = 192 + (a : ℕ) from hx0]
  · rw [h2, show (i : ℕ) = 128 + (a : ℕ) from hx0]
  · rw [h1, show (i : ℕ) = 64 + (a : ℕ) from hx0]
  · rw [h0, show (i : ℕ) = 0 + (a : ℕ) from hx0.trans (Nat.zero_add _).symm]

end Cert.EvenTailKernel
-- ==== Proof.EvenTail.Rows.lean ====
module

public import proofs.«01_k».proof.Proof.Gen.EvenTailIdeal.Value
public import proofs.«01_k».proof.Proof.EvenTail.Kernel
public import Idealize.ShloMosaic.Lib.Pipeline.ValueKit
public import Idealize.ShloMosaic.Lib.Pipeline.ReadBack
public import Idealize.ShloMosaic.Lib.Claim
public import Idealize.ShloMosaic.Lib.Pointwise

set_option maxRecDepth 16384

@[expose] public section

noncomputable section

namespace Cert.EvenTailKernel

open Idealize.ShloMosaic Idealize.ShloMosaic.TcCoe Idealize.SL.Sem
open Cert.TailSpec Cert.EvenTailIdeal Cert.EvenTailIdeal.Gen Cert.EvenTailIdeal.Value

variable (m : (ℓ : Loc nD τ sig) → Buf (Elt Ideal) ℓ)

/-- One element of a piece's rows, from the rows before the norm. -/
theorem tail_piece {u : FVec Ideal S64x512 .bf16} {y : FVec Ideal S64x512 .f32} {g be : FVec Ideal S1x512 .f32} {g' be' y' : Fin 512 → EReal} {a : Fin 64} {k : Fin 512} (e : u = tailV y g be)
    (h1 : ∀ k, g (ix2 0 k) = g' k) (h2 : ∀ k, be (ix2 0 k) = be' k) (h3 : ∀ k, y (ix2 a k) = y' k) : u (ix2 a k) = tail g' be' y' k := by
  rw [e]
  exact (tailV_apply _ _ _ a k).trans (tail_congr h1 h2 h3 k)

/-- The rows before a tile that a later tile of a sequence takes over. -/
def haloB (acc : St) : FVec Ideal S32x512 .f32 := k0_pay6 (F := Ideal) (View.ld (Val := Elt Ideal) (S := S544x512) (e' := .f32) acc.2.2 (Rect.unit (s := S544x512) ![512, 0] ![32, 512] inb_S544x512_S32x512_512_0))

set_option maxHeartbeats 4000000 in
/-- What a point writes: the residual and the two products, of the attention and of the pieces of the convolution, each of which is the row sum normed and gated. -/
theorem out_pieces (c : Dev nD) : ∃ L : FVec Ideal S544x512 .f32 → FVec Ideal S32x512 .f32 → FVec Ideal S1x512 .f32 → FVec Ideal S1x512 .f32 → FVec Ideal S1x512 .f32 → List (View.Piece (Elt Ideal) S512x512 .bf16),
    (∀ A W b g be (i k : Fin 512), View.canon (L A W b g be) ((Rect.unit (s := S512x512) ![0, 0] ![512, 512] inb_S512x512_S512x512_0_0).idx (ix2 i k)) = tail (fun k => g (ix2 0 k)) (fun k => be (ix2 0 k)) (convV A W b i) k) ∧
    ∀ (t : Fin cfg0.N) (acc : St) (i : Fin 512) (q : Fin 1024) (halo : FVec Ideal S32x512 .f32) (w : FVec Ideal S1024x1024 .bf16),
      ((t.val % 32 = 0 ∧ halo = k0_pay5 ∧ w = k0_pay3 (iblk m c 8 t)) ∨ (¬t.val % 32 = 0 ∧ t.val % 16 = 0 ∧ halo = k0_pay5 ∧ w = acc.2.1)
        ∨ (¬t.val % 16 = 0 ∧ halo = haloB acc ∧ w = acc.2.1)) →
      (stAt0 m c t.val t.isLt acc).1 (ix2 i q) = outOf (iblk m c 0 t (ix2 i q)) (fun k => iblk m c 1 t (ix3 ⟨(k : ℕ) / 128, by omega⟩ i ⟨(k : ℕ) % 128, Nat.mod_lt _ (by decide)⟩))
        (fun k => View.canon (L (abuf halo (iblk m c 2 t) (iblk m c 3 t)) (iblk m c 4 t) (iblk m c 5 t) (iblk m c 6 t) (iblk m c 7 t)) ((Rect.unit (s := S512x512) ![0, 0] ![512, 512] inb_S512x512_S512x512_0_0).idx (ix2 i k))) (fun k => w (ix2 k q)) := by
  apply Exists.intro
  refine ⟨?rows, ?parts⟩
  case' parts =>
    intro t acc i q halo w h
    have er := (Memref.isWhole_whole cc0_scratch0).read_unread acc.2.1
    rcases h with ⟨h0, rfl, rfl⟩ | ⟨h0, h1, rfl, rfl⟩ | ⟨h1, rfl, rfl⟩
    on_goal 1 =>
      have e := canon_abuf (k0_pay5 (F := Ideal)) (iblk m c 2 t) (iblk m c 3 t) shapeCasts_S512x512_S512x512
      rw [stAt0_A m c t acc h0 (by omega) (by omega)]
      dsimp only
      frame_open
      frame_out
      simp only [View.readCov_eq_canon', k0_pay9, k0_pay10, k0_pay11, k0_pay12, k0_pay13, k0_pay14, k0_pay15, e]
      clear e
      generalize abuf (k0_pay5 (F := Ideal)) (iblk m c 2 t) (iblk m c 3 t) = A
    on_goal 2 =>
      have e := canon_abuf (k0_pay5 (F := Ideal)) (iblk m c 2 t) (iblk m c 3 t) shapeCasts_S512x512_S512x512
      rw [stAt0_C m c t acc h0 h1 (by omega)]
      dsimp only
      frame_open
      frame_out
      simp only [View.readCov_eq_canon', k0_pay9, k0_pay10, k0_pay11, k0_pay12, k0_pay13, k0_pay14, k0_pay15, e]
      clear e
      generalize abuf (k0_pay5 (F := Ideal)) (iblk m c 2 t) (iblk m c 3 t) = A
    on_goal 3 =>
      have e := canon_abuf (haloB acc) (iblk m c 2 t) (iblk m c 3 t) shapeCasts_S512x512_S512x512
      have er1 : @View.read sig (Elt Ideal) (Proc.kind (τ := τ) Proc.tc) Space.vmem S544x512 .f32 (View.whole cc0_scratch1)
          (@Memref.IsWhole.unread sig (Elt Ideal) Kind.tc Space.vmem S544x512 .f32 scM0_1 (Memref.isWhole_whole cc0_scratch1) acc.2.2) = acc.2.2 :=
        (Memref.isWhole_whole cc0_scratch1).read_unread acc.2.2
      unfold haloB at e ⊢
      rw [stAt0_B m c t acc (by omega) h1 (by omega)]
      dsimp only
      frame_open
      frame_out
      simp only [View.readCov_eq_canon', k0_pay9, k0_pay10, k0_pay11, k0_pay12, k0_pay13, k0_pay14, k0_pay15, er1]
      simp only [e]
      clear e er1
      generalize abuf (k0_pay6 (F := Ideal) (View.ld (Val := Elt Ideal) (S := S544x512) (e' := .f32) acc.2.2 (Rect.unit (s := S544x512) ![512, 0] ![32, 512] inb_S544x512_S32x512_512_0))) (iblk m c 2 t) (iblk m c 3 t) = A
    all_goals
      have e2 := canon_shifts A
      simp only [e2]
      clear e2
      generalize iblk m c 0 t = B0
      revert B0
      intro (B0 : FVec Ideal S512x1024 .f32)
      generalize iblk m c 1 t = B1
      revert B1
      intro (B1 : FVec Ideal S4x512x128 .bf16)
      generalize iblk m c 4 t = B4
      revert B4
      intro (B4 : FVec Ideal S32x512 .f32)
      generalize iblk m c 5 t = B5
      revert B5
      intro (B5 : FVec Ideal S1x512 .f32)
      generalize iblk m c 6 t = B6
      revert B6
      intro (B6 : FVec Ideal S1x512 .f32)
      generalize iblk m c 7 t = B7
      revert B7
      intro (B7 : FVec Ideal S1x512 .f32)
      generalize iblk m c 8 t = B8
      revert B8
      intro (B8 : FVec Ideal S1x1024x1024 .f32)
      refine out_parts _ _ _ _ _ _ _ _ i q (fun j l => B1 (ix3 j i l)) _
        (fun k => _) (fun l => ?_) (fun l => ?_) (fun l => ?_) (fun l => ?_) (fun k => rfl) (fun k => ?_) (fun k => ?_)
      · pointwise
      · pointwise
      · pointwise
      · pointwise
      · first
        | exact (congrFun (canon_w _) _).trans (by pointwise)
        | exact (congrArg (fun z : FVec Ideal S1024x1024 .bf16 => View.ld (Val := Elt Ideal) (S := S1024x1024) (e' := .bf16) z (Rect.unit (s := S1024x1024) ![0, 0] ![512, 1024] inb_S1024x1024_S512x1024_0_0) (ix2 k q)) er).trans (by pointwise)
      · first
        | exact (congrFun (canon_w _) _).trans (by pointwise)
        | exact (congrArg (fun z : FVec Ideal S1024x1024 .bf16 => View.ld (Val := Elt Ideal) (S := S1024x1024) (e' := .bf16) z (Rect.unit (s := S1024x1024) ![512, 0] ![512, 1024] inb_S1024x1024_S512x1024_512_0) (ix2 k q)) er).trans (by pointwise)
  intro A B4 B5 B6 B7 i k
  refine canon_rows _ _ _ _ _ _ _ _ (tail (fun k => B6 (ix2 0 k)) (fun k => B7 (ix2 0 k)) <| convV A B4 B5 ·) _ (fun a k => ?_) (fun a k => ?_) (fun a k => ?_) (fun a k => ?_) (fun a k => ?_) (fun a k => ?_) (fun a k => ?_) (fun a k => ?_) i k
  all_goals
    apply tail_piece
    · simp only [k0_pay1, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120]
      unfold tailV normV cenV
      rfl
    · intro k
      pointwise
    · intro k
      pointwise
    · intro k
      pointwise [shifts]
      rw [convV_expand]
      iterate 31 refine add_mul_congr ?_ (aAt_eq A _ _ _ _ (by omega))
      rfl

theorem outT (c : Dev nD) (t : Fin cfg0.N) (acc : St) (i : Fin 512) (q : Fin 1024) (halo : FVec Ideal S32x512 .f32) (w : FVec Ideal S1024x1024 .bf16)
    (h : ((t.val % 32 = 0 ∧ halo = k0_pay5 ∧ w = k0_pay3 (iblk m c 8 t)) ∨ (¬t.val % 32 = 0 ∧ t.val % 16 = 0 ∧ halo = k0_pay5 ∧ w = acc.2.1)
        ∨ (¬t.val % 16 = 0 ∧ halo = haloB acc ∧ w = acc.2.1))) :
    (stAt0 m c t.val t.isLt acc).1 (ix2 i q) = outOf (iblk m c 0 t (ix2 i q)) (fun k => iblk m c 1 t (ix3 ⟨(k : ℕ) / 128, by omega⟩ i ⟨(k : ℕ) % 128, Nat.mod_lt _ (by decide)⟩))
      (tail (fun k => iblk m c 6 t (ix2 0 k)) (fun k => iblk m c 7 t (ix2 0 k)) (convV (abuf halo (iblk m c 2 t) (iblk m c 3 t)) (iblk m c 4 t) (iblk m c 5 t) i)) (fun k => w (ix2 k q)) := by
  obtain ⟨L, hL, hs⟩ := out_pieces m c
  refine (hs t acc i q halo w h).trans ?_
  exact congrArg (fun Y => outOf _ _ Y _) (funext fun k => hL _ _ _ _ _ i k)

end Cert.EvenTailKernel
-- ==== Proof.EvenTail.Fold.lean ====
module

public import proofs.«01_k».proof.Proof.Gen.EvenTailIdeal.Value
public import proofs.«01_k».proof.Proof.EvenTail.Rows
public import Idealize.ShloMosaic.Lib.Pipeline.ValueKit
public import Idealize.ShloMosaic.Lib.Pipeline.ReadBack
public import Idealize.ShloMosaic.Lib.Claim
public import Idealize.ShloMosaic.Lib.Pointwise

set_option maxRecDepth 16384

@[expose] public section

noncomputable section

namespace Cert.EvenTailKernel

open Idealize.ShloMosaic Idealize.ShloMosaic.TcCoe Idealize.SL.Sem
open Cert.TailSpec Cert.EvenTailIdeal Cert.EvenTailIdeal.Gen Cert.EvenTailIdeal.Value

variable (m : (ℓ : Loc nD τ sig) → Buf (Elt Ideal) ℓ)

/-- The index maps of the input windows. -/
theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 1] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)

/-- The arguments by index. -/
abbrev hV (c : Dev nD) : Fin 16384 → Fin 1024 → EReal := fun r k => (show FVec Ideal S16384x1024 .f32 from V m c main_arg0) (ix2 r k)
abbrev aV (c : Dev nD) : Fin 4 → Fin 16384 → Fin 128 → EReal := fun j r l => (show FVec Ideal S4x16384x128 .bf16 from V m c main_arg1) (ix3 j r l)
abbrev xV (c : Dev nD) : Fin 16384 → Fin 1024 → EReal := fun r k => (show FVec Ideal S16384x1024 .bf16 from V m c main_arg2) (ix2 r k)
abbrev cwV (c : Dev nD) : Fin 31 → Fin 512 → EReal := fun j k => (show FVec Ideal S31x512 .f32 from V m c main_arg3) (ix2 j k)
abbrev vV (x : FVec Ideal S512 .f32) : Fin 512 → EReal := fun k => x (ix1 k)
abbrev wV (c : Dev nD) : Fin 1024 → Fin 1024 → EReal := fun k q => (show FVec Ideal S1x1024x1024 .f32 from V m c main_arg7) (ix3 0 k q)

/-- The convolution's weight, one row of zeros below it: its first thirty-one rows are the weight's. -/
theorem entry_v1 (c : Dev nD) (j : Fin 32) (q : Fin 512) (hj : (j : ℕ) < 31) : V m c main_v1 (ix2 j q) = cwV m c ⟨j, hj⟩ q := by
  have e : V m c main_v1 = (concatenate S32x512 0 [⟨S31x512, (m ((c.tc : Thread nD τ).loc main_arg3) : FVec Ideal S31x512 .f32)⟩,
    ⟨S1x512, (broadcastInDim S1x512 ![] bcast_S_S1x512 (constant S_ .f32 0x00000000#32) : FVec Ideal S1x512 .f32)⟩] concatenates_S31x512_S1x512_S32x512_d0 : FVec Ideal S32x512 .f32) := rfl
  unfold cwV
  rw [V_main_arg3, e]
  pointwise
  rw [dif_pos hj]

/-- The reshaped vectors are the vectors. -/
theorem entry_v2 (c : Dev nD) (k : Fin 512) : V m c main_v2 (ix2 0 k) = vV (V m c main_arg4) k := by
  have e : V m c main_v2 = (shapeCast S1x512 (m ((c.tc : Thread nD τ).loc main_arg4) : FVec Ideal S512 .f32) shapeCasts_S512_S1x512 : FVec Ideal S1x512 .f32) := rfl
  rw [V_main_arg4, e]
  pointwise
theorem entry_v3 (c : Dev nD) (k : Fin 512) : V m c main_v3 (ix2 0 k) = vV (V m c main_arg5) k := by
  have e : V m c main_v3 = (shapeCast S1x512 (m ((c.tc : Thread nD τ).loc main_arg5) : FVec Ideal S512 .f32) shapeCasts_S512_S1x512 : FVec Ideal S1x512 .f32) := rfl
  rw [V_main_arg5, e]
  pointwise
theorem entry_v4 (c : Dev nD) (k : Fin 512) : V m c main_v4 (ix2 0 k) = vV (V m c main_arg6) k := by
  have e : V m c main_v4 = (shapeCast S1x512 (m ((c.tc : Thread nD τ).loc main_arg6) : FVec Ideal S512 .f32) shapeCasts_S512_S1x512 : FVec Ideal S1x512 .f32) := rfl
  rw [V_main_arg6, e]
  pointwise

/-- What a point reads: rows of the residual, of the attention, of the two halves of the convolution's input; the rest whole. -/
theorem read0 (c : Dev nD) (t : Fin cfg0.N) (i : Fin 512) (q : Fin 1024) (r : Fin 16384) (hr : (r : ℕ) = t.val * 512 + i) : iblk m c 0 t (ix2 i q) = hV m c r q := by
  blk_ext [iblk, idx0 t]
theorem read1 (c : Dev nD) (t : Fin cfg0.N) (j : Fin 4) (i : Fin 512) (l : Fin 128) (r : Fin 16384) (hr : (r : ℕ) = t.val * 512 + i) :
    iblk m c 1 t (ix3 j i l) = aV m c j r l := by
  blk_ext [iblk, idx1 t]
theorem read2 (c : Dev nD) (t : Fin cfg0.N) (i q : Fin 512) (r : Fin 16384) (hr : (r : ℕ) = t.val * 512 + i) (k : Fin 1024) (hk : (k : ℕ) = 0 + q) :
    iblk m c 2 t (ix2 i q) = xV m c r k := by
  blk_ext [iblk, idx2 t]
theorem read3 (c : Dev nD) (t : Fin cfg0.N) (i q : Fin 512) (r : Fin 16384) (hr : (r : ℕ) = t.val * 512 + i) (k : Fin 1024) (hk : (k : ℕ) = 512 + q) :
    iblk m c 3 t (ix2 i q) = xV m c r k := by
  blk_ext [iblk, idx3 t]
theorem read4 (c : Dev nD) (t : Fin cfg0.N) (j : Fin 32) (q : Fin 512) (hj : (j : ℕ) < 31) : iblk m c 4 t (ix2 j q) = cwV m c ⟨j, hj⟩ q := by
  rw [← entry_v1 m c j q hj]
  blk_ext [iblk, idx4 t]
theorem read5 (c : Dev nD) (t : Fin cfg0.N) (k : Fin 512) : iblk m c 5 t (ix2 0 k) = vV (V m c main_arg4) k := by
  rw [← entry_v2 m c k]
  blk_ext [iblk, idx5 t]
theorem read6 (c : Dev nD) (t : Fin cfg0.N) (k : Fin 512) : iblk m c 6 t (ix2 0 k) = vV (V m c main_arg5) k := by
  rw [← entry_v3 m c k]
  blk_ext [iblk, idx6 t]
theorem read7 (c : Dev nD) (t : Fin cfg0.N) (k : Fin 512) : iblk m c 7 t (ix2 0 k) = vV (V m c main_arg6) k := by
  rw [← entry_v4 m c k]
  blk_ext [iblk, idx7 t]
theorem read8 (c : Dev nD) (t : Fin cfg0.N) (k q : Fin 1024) : iblk m c 8 t (ix3 0 k q) = wV m c k q := by
  blk_ext [iblk, idx8 t]

/-- The cast weight, the rows of zeros and the rows taken over, each at an index. -/
theorem pay3_apply (w : FVec Ideal S1x1024x1024 .f32) (k q : Fin 1024) : k0_pay3 (F := Ideal) w (ix2 k q) = w (ix3 0 k q) := by
  pointwise [k0_pay3]
theorem pay5_apply (p : Fin 32) (q : Fin 512) : k0_pay5 (F := Ideal) (ix2 p q) = (0 : EReal) := by
  pointwise [k0_pay5]
theorem haloB_apply (acc : St) (p : Fin 32) (q : Fin 512) : haloB acc (ix2 p q) = acc.2.2 (ix2 ⟨512 + p, by omega⟩ q) := by
  unfold haloB
  pointwise [k0_pay6]

/-- The gated rows after a point: thirty-two rows before the tile's, then the tile's. -/
theorem abuf_eq (c : Dev nD) (t : Fin cfg0.N) (acc : St) (halo : FVec Ideal S32x512 .f32)
    (h : (t.val % 16 = 0 ∧ halo = k0_pay5) ∨ (¬t.val % 16 = 0 ∧ halo = haloB acc))
    (hA : ¬t.val % 16 = 0 → ∀ (p : Fin 544) (q : Fin 512) (b : Fin 2) (s : ℕ), (b : ℕ) = (t.val - 1) / 16 → s + 2 = 512 * ((t.val - 1) % 16) + p → acc.2.2 (ix2 p q) = glu (xV m c) b s q)
    (p : Fin 544) (q : Fin 512) (b : Fin 2) (s : ℕ) (hb : (b : ℕ) = t.val / 16) (hs : s + 2 = 512 * (t.val % 16) + p) :
    abuf halo (iblk m c 2 t) (iblk m c 3 t) (ix2 p q) = glu (xV m c) b s q := by
  have hN := lt_of_lt_of_eq t.isLt (show cfg0.N = 32 from N_0)
  have hp := p.isLt
  by_cases h32 : (p : ℕ) < 32
  · refine (dif_pos h32).trans ?_
    show halo (ix2 ⟨p, h32⟩ q) = _
    rcases h with ⟨h0, rfl⟩ | ⟨h0, rfl⟩
    · rw [pay5_apply]
      unfold glu
      rw [dif_neg (show ¬(30 ≤ s ∧ s < 8222) by omega)]
    · rw [haloB_apply]
      exact hA h0 _ q b s (by omega) (show s + 2 = 512 * ((t.val - 1) % 16) + (512 + p) by omega)
  · refine (dif_neg h32).trans (Eq.trans ?_ (dif_pos (show 30 ≤ s ∧ s < 8222 by omega)).symm)
    exact congrArg₂ (fun a b : EReal => a * Ideal.logistic b)
      (read2 m c t ⟨(p : ℕ) - 32, by omega⟩ q ⟨(b : ℕ) * 8192 + (s - 30), by omega⟩ (show (b : ℕ) * 8192 + (s - 30) = t.val * 512 + ((p : ℕ) - 32) by omega) ⟨0 + q, by omega⟩ rfl)
      (read3 m c t ⟨(p : ℕ) - 32, by omega⟩ q ⟨(b : ℕ) * 8192 + (s - 30), by omega⟩ (show (b : ℕ) * 8192 + (s - 30) = t.val * 512 + ((p : ℕ) - 32) by omega) ⟨512 + q, by omega⟩ rfl)

/-- The convolution of a tile's rows is the convolution of the sequence's. -/
theorem conv_eq (c : Dev nD) (t : Fin cfg0.N) (A : FVec Ideal S544x512 .f32) (b : Fin 2)
    (hA : ∀ (p : Fin 544) (q : Fin 512) (s : ℕ), s + 2 = 512 * (t.val % 16) + p → A (ix2 p q) = glu (xV m c) b s q)
    (i : ℕ) (hi : i < 512) (s : ℕ) (hs : s = 512 * (t.val % 16) + i) (q : Fin 512) :
    convV A (iblk m c 4 t) (iblk m c 5 t) i q = convAt (xV m c) (cwV m c) (vV (V m c main_arg4)) b s q := by
  refine congrArg₂ (fun x y : EReal => x + y) (Finset.sum_congr rfl fun j hj => ?_) (read5 m c t q)
  have hj : j < 31 := Finset.mem_range.mp hj
  rw [mul_comm]
  exact congrArg₂ (fun x y : EReal => x * y) ((dif_pos (show j + 2 + i < 544 by omega)).trans (hA ⟨j + 2 + i, by omega⟩ q (j + s) (show j + s + 2 = 512 * (t.val % 16) + (j + 2 + i) by omega)))
    ((dif_pos (show j < 32 by omega)).trans ((read4 m c t ⟨j, by omega⟩ q hj).trans (by unfold tap; rw [dif_pos hj])))

theorem outOf_congr {h h' : EReal} {a a' y y' : Fin 512 → EReal} {w w' : Fin 1024 → EReal} (e0 : h = h') (e1 : ∀ k, a k = a' k) (e2 : ∀ k, y k = y' k) (e3 : ∀ k, w k = w' k) :
    outOf h a y w = outOf h' a' y' w' := by
  rw [e0, funext e1, funext e2, funext e3]

/-- What a point leaves in the two scratch arrays, and from which rows and weight. -/
theorem parts (c : Dev nD) (t : Fin cfg0.N) (acc : St) : ∃ (halo : FVec Ideal S32x512 .f32) (w : FVec Ideal S1024x1024 .bf16),
    ((t.val % 32 = 0 ∧ halo = k0_pay5 ∧ w = k0_pay3 (iblk m c 8 t)) ∨ (¬t.val % 32 = 0 ∧ t.val % 16 = 0 ∧ halo = k0_pay5 ∧ w = acc.2.1) ∨ (¬t.val % 16 = 0 ∧ halo = haloB acc ∧ w = acc.2.1))
    ∧ (stAt0 m c t.val t.isLt acc).2.1 = w ∧ (stAt0 m c t.val t.isLt acc).2.2 = abuf halo (iblk m c 2 t) (iblk m c 3 t) := by
  by_cases h0 : t.val % 32 = 0
  · refine ⟨_, _, Or.inl ⟨h0, rfl, rfl⟩, ?_, ?_⟩
    · rw [stAt0_A m c t acc h0 (by omega) (by omega)]
      dsimp only
      frame_out
    · rw [stAt0_A m c t acc h0 (by omega) (by omega)]
      dsimp only
      frame_out
      exact canon_abuf _ _ _ _
  · by_cases h1 : t.val % 16 = 0
    · refine ⟨_, _, Or.inr (Or.inl ⟨h0, h1, rfl, rfl⟩), ?_, ?_⟩
      · rw [stAt0_C m c t acc h0 h1 (by omega)]
        rfl
      · rw [stAt0_C m c t acc h0 h1 (by omega)]
        dsimp only
        frame_out
        exact canon_abuf _ _ _ _
    · refine ⟨_, _, Or.inr (Or.inr ⟨h1, rfl, rfl⟩), ?_, ?_⟩
      · rw [stAt0_B m c t acc h0 h1 (by omega)]
        rfl
      · rw [stAt0_B m c t acc h0 h1 (by omega)]
        dsimp only
        frame_out
        have er : @View.read sig (Elt Ideal) (Proc.kind (τ := τ) Proc.tc) Space.vmem S544x512 .f32 (View.whole cc0_scratch1)
          (@Memref.IsWhole.unread sig (Elt Ideal) Kind.tc Space.vmem S544x512 .f32 scM0_1 (Memref.isWhole_whole cc0_scratch1) acc.2.2) = acc.2.2 := (Memref.isWhole_whole cc0_scratch1).read_unread acc.2.2
        rw [er]
        exact canon_abuf _ _ _ _

/-- One point: the scratch arrays hold what the next point needs, and its rows are the layer's. -/
theorem step (c : Dev nD) (t : Fin cfg0.N) (acc : St)
    (hW : ¬t.val % 32 = 0 → ∀ k q : Fin 1024, acc.2.1 (ix2 k q) = wV m c k q)
    (hA : ¬t.val % 16 = 0 → ∀ (p : Fin 544) (q : Fin 512) (b : Fin 2) (s : ℕ), (b : ℕ) = (t.val - 1) / 16 → s + 2 = 512 * ((t.val - 1) % 16) + p → acc.2.2 (ix2 p q) = glu (xV m c) b s q) :
    (∀ k q : Fin 1024, (stAt0 m c t.val t.isLt acc).2.1 (ix2 k q) = wV m c k q)
    ∧ (∀ (p : Fin 544) (q : Fin 512) (b : Fin 2) (s : ℕ), (b : ℕ) = t.val / 16 → s + 2 = 512 * (t.val % 16) + p → (stAt0 m c t.val t.isLt acc).2.2 (ix2 p q) = glu (xV m c) b s q)
    ∧ ∀ (i : Fin 512) (q : Fin 1024) (r : Fin 16384), (r : ℕ) = t.val * 512 + i → (stAt0 m c t.val t.isLt acc).1 (ix2 i q)
      = tailAt (hV m c) (aV m c) (xV m c) (cwV m c) (vV (V m c main_arg4)) (vV (V m c main_arg5)) (vV (V m c main_arg6)) (wV m c) r q := by
  have hN := lt_of_lt_of_eq t.isLt (show cfg0.N = 32 from N_0)
  obtain ⟨halo, w, h, e1, e2⟩ := parts m c t acc
  have hw : ∀ k q : Fin 1024, w (ix2 k q) = wV m c k q := by
    intro k q
    rcases h with ⟨h0, _, rfl⟩ | ⟨h0, h1, _, rfl⟩ | ⟨h1, _, rfl⟩
    · exact (pay3_apply _ k q).trans (read8 m c t k q)
    · exact hW h0 k q
    · exact hW (by omega) k q
  have ha := abuf_eq m c t acc halo (by
    rcases h with ⟨h0, e, _⟩ | ⟨h0, h1, e, _⟩ | ⟨h1, e, _⟩
    · exact Or.inl ⟨by omega, e⟩
    · exact Or.inl ⟨h1, e⟩
    · exact Or.inr ⟨h1, e⟩) hA
  refine ⟨fun k q => by rw [e1]; exact hw k q, fun p q b s hb hs => by rw [e2]; exact ha p q b s hb hs, fun i q r hr => ?_⟩
  refine (outT m c t acc i q halo w h).trans ?_
  exact outOf_congr (read0 m c t i q r hr) (fun k => read1 m c t _ i _ r hr) (fun k => tail_congr (fun k => read6 m c t k) (fun k => read7 m c t k)
    (fun k => conv_eq m c t _ ⟨(r : ℕ) / 8192, by omega⟩ (fun p q s hs => ha p q _ s (show (r : ℕ) / 8192 = t.val / 16 by omega) hs) i i.isLt ((r : ℕ) % 8192) (by omega) k) k) (fun k => hw k q)

/-- Every point: the scratch arrays, and the rows written. -/
theorem out_eq (c : Dev nD) : ∀ (n : ℕ) (hn : n < cfg0.N), (∀ k q : Fin 1024, (outsAt0 m c n hn).2.1 (ix2 k q) = wV m c k q)
    ∧ (∀ (p : Fin 544) (q : Fin 512) (b : Fin 2) (s : ℕ), (b : ℕ) = n / 16 → s + 2 = 512 * (n % 16) + p → (outsAt0 m c n hn).2.2 (ix2 p q) = glu (xV m c) b s q)
    ∧ ∀ (i : Fin 512) (q : Fin 1024) (r : Fin 16384), (r : ℕ) = n * 512 + i → (outsAt0 m c n hn).1 (ix2 i q)
      = tailAt (hV m c) (aV m c) (xV m c) (cwV m c) (vV (V m c main_arg4)) (vV (V m c main_arg5)) (vV (V m c main_arg6)) (wV m c) r q
  | 0, hn => by
    rw [outsAt0_zero m c hn]
    exact step m c ⟨0, hn⟩ junk0 (fun h => absurd rfl h) (fun h => absurd rfl h)
  | n + 1, hn => by
    obtain ⟨hW, hA, _⟩ := out_eq c n (by omega)
    rw [outsAt0_succ m c n hn]
    exact step m c ⟨n + 1, hn⟩ _ (fun _ => hW) (fun _ p q b s hb hs => hA p q b s hb hs)

/-- The kernel's output array is the layer's end. -/
theorem G9_apply (c : Dev nD) (r : Fin 16384) (q : Fin 1024) : G9 m c (ix2 r q)
    = tailAt (hV m c) (aV m c) (xV m c) (cwV m c) (vV (V m c main_arg4)) (vV (V m c main_arg5)) (vV (V m c main_arg6)) (wV m c) r q := by
  have hN : cfg0.N = 32 := N_0
  have hp : pt9Of (ix2 r q) = (r : ℕ) / 512 := by
    show 1 * ((r : ℕ) / 512 - 0) + 1 * ((q : ℕ) / 1024 - 0) = _
    omega
  have hl : loc9Of (ix2 r q) = ix2 ⟨(r : ℕ) % 512, by omega⟩ q := by
    funext a; apply Fin.ext
    match a with
    | ⟨0, _⟩ => rfl
    | ⟨1, _⟩ => show (q : ℕ) % 1024 = (q : ℕ); omega
  unfold G9
  rw [dif_pos (by rw [hp, hN]; omega), hl, fold0_congr m c _ _ ((r : ℕ) / 512) (by omega) hp, ← outsAt0_sweep m c _ (by omega)]
  exact (out_eq m c _ _).2.2 _ q r (by simp only; omega)

end Cert.EvenTailKernel
-- ==== Proof.EvenTail.Ref.lean ====
module

public import proofs.«01_k».proof.Proof.Gen.EvenTailRefIdeal.Run
public import proofs.«01_k».proof.Proof.EvenTail.Spec
public import Idealize.ShloMosaic.Lib.Pointwise

set_option maxRecDepth 16384

@[expose] public section

noncomputable section

namespace Cert.EvenTailRef

open Idealize.ShloMosaic Idealize.ShloMosaic.TcCoe Idealize.ShloMosaic.StableHlo Idealize.SL.Sem
open Cert.TailSpec Cert.EvenTailRefIdeal Cert.EvenTailRefIdeal.Gen Cert.EvenTailRefIdeal.Value

variable (V0 : Valuation τ sig (Elt Ideal))

/-- The convolution's values and gates. -/
abbrev xOf : Fin 16384 → Fin 1024 → EReal := fun r k => (show FVec Ideal S16384x1024 .bf16 from V0 (Proc.devRef .tc main_arg2)) (ix2 r k)

/-- The convolution's weight. -/
abbrev wOf : Fin 31 → Fin 512 → EReal := fun j k => (show FVec Ideal S31x512 .f32 from V0 (Proc.devRef .tc main_arg3)) (ix2 j k)

/-- A vector of 512. -/
abbrev vOf (x : FVec Ideal S512 .f32) : Fin 512 → EReal := fun k => x (ix1 k)

/-- The values and gates, sequence by sequence. -/
theorem x_apply (b : Fin 2) (s : Fin 8192) (k : Fin 1024) : (show FVec Ideal S2x8192x1024 .f32 from res_main_v1 V0) (ix3 b s k) = xOf V0 ⟨b * 8192 + s, by omega⟩ k := by
  unfold res_main_v1
  pointwise

/-- The padded gated values at an index. -/
theorem glu_apply (b : Fin 2) (p : Fin 8222) (q : Fin 512) : (show FVec Ideal S2x8222x512 .f32 from res_main_v11 V0) (ix3 b p q) = glu (xOf V0) b p q := by
  unfold res_main_v11
  pointwise
  unfold glu
  have hp := p.isLt
  by_cases h : 30 ≤ (p : ℕ)
  · rw [dif_pos (show 30 ≤ (p : ℕ) ∧ (p : ℕ) - 30 < 8192 by omega), dif_pos (show 30 ≤ (p : ℕ) ∧ (p : ℕ) < 8222 by omega)]
    refine congrArg₂ (fun a b : EReal => a * Ideal.logistic b) ((x_apply V0 _ _ _).trans (congrArg _ (Fin.ext (by simp only; omega)))) (x_apply V0 _ _ _)
  · rw [dif_neg (show ¬(30 ≤ (p : ℕ) ∧ (p : ℕ) - 30 < 8192) by omega), dif_neg (show ¬(30 ≤ (p : ℕ) ∧ (p : ℕ) < 8222) by omega)]
    show (((0#32 : BitVec 32).toInt : ℝ) : EReal) = 0
    simp

/-- The convolution at an index. -/
theorem conv_apply (b : Fin 2) (s : Fin 8192) (q : Fin 512) :
    (show FVec Ideal S2x8192x512 .f32 from res_main_v232 V0) (ix3 b s q) = convAt (xOf V0) (wOf V0) (vOf (V0 (Proc.devRef .tc main_arg4))) b s q := by
  have hg : ∀ p : Fin 8222, (show FVec Ideal S2x8222x512 .f32 from res_main_v11 V0) (ix3 b p q) = glu (xOf V0) b p q := fun p => glu_apply V0 b p q
  unfold res_main_v232 res_main_v166 res_main_v89
  pointwise
  simp only [hg, convAt, Finset.sum_range_succ, Finset.sum_range_zero, zero_add]
  rfl

/-- A row of the convolution after the norm. -/
theorem normed_apply (b : Fin 2) (s : Fin 8192) (q : Fin 512) :
    (show FVec Ideal S2x8192x512 .f32 from res_main_v256 V0) (ix3 b s q) = normed (vOf (V0 (Proc.devRef .tc main_arg5))) (vOf (V0 (Proc.devRef .tc main_arg6)))
      (convAt (xOf V0) (wOf V0) (vOf (V0 (Proc.devRef .tc main_arg4))) b s) q := by
  have hc : ∀ k : Fin 512, (show FVec Ideal S2x8192x512 .f32 from res_main_v232 V0) (ix3 b s k) = convAt (xOf V0) (wOf V0) (vOf (V0 (Proc.devRef .tc main_arg4))) b s k := conv_apply V0 b s
  unfold res_main_v256 res_main_v238 res_main_v236
  pointwise
  simp only [hc]
  rfl

/-- The reference's result as a function of the arguments. -/
def out : FVec Ideal S16384x1024 .f32 :=
  let h : FVec Ideal S16384x1024 .f32 := V0 (Proc.devRef .tc main_arg0)
  let a : FVec Ideal S4x16384x128 .bf16 := V0 (Proc.devRef .tc main_arg1)
  let w : FVec Ideal S1x1024x1024 .f32 := V0 (Proc.devRef .tc main_arg7)
  let y : FVec Ideal S2x8192x512 .f32 := res_main_v256 V0
  addf h (shapeCast _ (Host.dotGeneral dot_S2x8192x1024_S1024x1024_S2x8192x1024_2_0_01_1_n_n none (concatenate S2x8192x1024 2 [⟨S2x8192x512, (shapeCast _ (transpose S16384x4x128 [1, 0, 2] (extf .f32 a bitsLt_bf16_f32) transposes_S4x16384x128_S16384x4x128_1_0_2) shapeCasts_S16384x4x128_S2x8192x512)⟩, ⟨S2x8192x512, (mulf y (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf y)))))⟩] concatenates_S2x8192x512_S2x8192x512_S2x8192x1024_d2) (shapeCast _ w shapeCasts_S1x1024x1024_S1024x1024)) shapeCasts_S2x8192x1024_S16384x1024)

/-- The result at an index. -/
theorem out_apply (r : Fin 16384) (q : Fin 1024) :
    out V0 (ix2 r q) = tailAt (fun r k => (show FVec Ideal S16384x1024 .f32 from V0 (Proc.devRef .tc main_arg0)) (ix2 r k))
      (fun j r l => (show FVec Ideal S4x16384x128 .bf16 from V0 (Proc.devRef .tc main_arg1)) (ix3 j r l)) (xOf V0) (wOf V0)
      (vOf (V0 (Proc.devRef .tc main_arg4))) (vOf (V0 (Proc.devRef .tc main_arg5))) (vOf (V0 (Proc.devRef .tc main_arg6)))
      (fun k q => (show FVec Ideal S1x1024x1024 .f32 from V0 (Proc.devRef .tc main_arg7)) (ix3 0 k q)) r q := by
  have hn : ∀ k : Fin 512, (show FVec Ideal S2x8192x512 .f32 from res_main_v256 V0) (ix3 ⟨(r : ℕ) / 8192, by omega⟩ ⟨(r : ℕ) % 8192, Nat.mod_lt _ (by decide)⟩ k) = _ := normed_apply V0 _ _
  unfold out
  pointwise
  simp only [hn]
  rfl

end Cert.EvenTailRef
-- ==== Proof.EvenTail.Claim.lean ====
module

public import proofs.«01_k».proof.Proof.EvenTail.Fold
public import proofs.«01_k».proof.Proof.EvenTail.Ref
public import proofs.«01_k».proof.Defs

set_option maxRecDepth 16384

@[expose] public section

noncomputable section

namespace Cert.EvenTailClaim

open Idealize.ShloMosaic Idealize.ShloMosaic.TcCoe Idealize.SL.Sem
open Cert.TailSpec Cert.EvenTailIdeal Cert.EvenTailIdeal.Gen Cert.EvenTailIdeal.Value

/-- The reference keeps its arguments and leaves every counter at zero. -/
theorem ref_frame : quiescent_EvenTailRefIdeal (hEvenTailRefIdeal := EvenTailRefIdeal.Gen.facts) := fun m ρ _ =>
  (θ_run _ _ _).mono (fun r h => ⟨fun c => (h c).2, sem_eq_zero_of_no_sems rfl r.2⟩) (EvenTailRefIdeal.Value.run m ρ)

/-- The end of the layer from arguments that agree. -/
theorem tailAt_congr {h h' x x' : FVec Ideal S16384x1024 .f32} {a a' : FVec Ideal S4x16384x128 .bf16} {cw cw' : FVec Ideal S31x512 .f32} {cb cb' cg cg' cbe cbe' : FVec Ideal S512 .f32}
    {w w' : FVec Ideal S1x1024x1024 .f32} (e0 : h = h') (e1 : a = a') (e2 : x = x') (e3 : cw = cw') (e4 : cb = cb') (e5 : cg = cg') (e6 : cbe = cbe') (e7 : w = w') (r : Fin 16384) (q : Fin 1024) :
    tailAt (fun r k => h (ix2 r k)) (fun j r l => a (ix3 j r l)) (fun r k => x (ix2 r k)) (fun j k => cw (ix2 j k)) (fun k => cb (ix1 k)) (fun k => cg (ix1 k)) (fun k => cbe (ix1 k)) (fun k q => w (ix3 0 k q)) r q
      = tailAt (fun r k => h' (ix2 r k)) (fun j r l => a' (ix3 j r l)) (fun r k => x' (ix2 r k)) (fun j k => cw' (ix2 j k)) (fun k => cb' (ix1 k)) (fun k => cg' (ix1 k)) (fun k => cbe' (ix1 k)) (fun k q => w' (ix3 0 k q)) r q := by
  subst e0 e1 e2 e3 e4 e5 e6 e7
  rfl

/-- The kernel computes the reference's result over the extended reals. -/
theorem value : algebraic_EvenTailIdeal_EvenTailRefIdeal (hEvenTailIdeal := EvenTailIdeal.Gen.facts) (hEvenTailRefIdeal := EvenTailRefIdeal.Gen.facts) := fun m ρ m' ρ' _ h =>
  ⟨fun c => G9 m c, run m ρ,
    (θ_run _ _ _).mono (fun _ hr c => ⟨(hr c).1.trans (by
      obtain ⟨e0, e1, e2, e3, e4, e5, e6, e7⟩ := h c
      refine Eq.trans (b := EvenTailRef.out (StableHlo.launchContents m' c)) rfl ?_
      funext idx
      obtain ⟨r, q, rfl⟩ : ∃ r q, idx = ix2 r q := ⟨_, _, eq_ix2 idx⟩
      refine (EvenTailRef.out_apply _ r q).trans (Eq.trans ?_ (EvenTailKernel.G9_apply m c r q).symm)
      exact tailAt_congr (e0.trans (V_main_arg0 m c).symm) (e1.trans (V_main_arg1 m c).symm) (e2.trans (V_main_arg2 m c).symm) (e3.trans (V_main_arg3 m c).symm)
        (e4.trans (V_main_arg4 m c).symm) (e5.trans (V_main_arg5 m c).symm) (e6.trans (V_main_arg6 m c).symm) (e7.trans (V_main_arg7 m c).symm) r q), (hr c).2⟩) (EvenTailRefIdeal.Value.run m' ρ')⟩

end Cert.EvenTailClaim
-- ==== Proof.OddIn.Spec.lean ====
module

public import Idealize.ShloMosaic.Lib.Pointwise
public import Idealize.ShloMosaic.Lib.ValueIdx

set_option maxRecDepth 16384

@[expose] public section

noncomputable section

namespace Cert.ProjSpec

open Idealize.ShloMosaic Idealize.ShloMosaic.TcCoe Idealize.SL.Sem

/-- One element of a row divided by its root mean square and multiplied by the gain. -/
def normed (x g : Fin 1024 → EReal) (k : Fin 1024) : EReal :=
  x k * Ideal.rsqrt (Ideal.div (∑ j, x j * x j) (Ideal.ofBits FTy.f32 0x44800000#32) + Ideal.ofBits FTy.f32 0x358637BD#32) * g k

/-- A normed row's product with a column of the weight. -/
def projected (x g w : Fin 1024 → EReal) : EReal := ∑ k, normed x g k * w k

/-- The scale of the keys: the first four heads are queries, the others keys. -/
def scl (hd : ℕ) (v : EReal) : EReal := if hd < 4 then v else v * Ideal.ofBits FTy.f32 0x3D800000#32

/-- The rotation of the queries' and keys' columns of a row, head by head of 256 columns, with the keys' scale:
    `a` the row, `c` and `s` the cosines and sines of its position. -/
def rot (a : Fin 2048 → EReal) (c s : Fin 128 → EReal) (y : Fin 2048) : EReal :=
  scl ((y : ℕ) / 256) (if h : (y : ℕ) % 256 < 128 then a y * c ⟨(y : ℕ) % 256, h⟩ - a ⟨(y : ℕ) + 128, by omega⟩ * s ⟨(y : ℕ) % 256, h⟩
    else a y * c ⟨(y : ℕ) % 256 - 128, by omega⟩ + a ⟨(y : ℕ) - 128, by omega⟩ * s ⟨(y : ℕ) % 256 - 128, by omega⟩)

/-- The rotation at a column of the first half of a head. -/
theorem rot_lo (a : Fin 2048 → EReal) (c s : Fin 128 → EReal) (hd : ℕ) (d : Fin 128) (y z : Fin 2048)
    (hy : (y : ℕ) = 256 * hd + d) (hz : (z : ℕ) = 256 * hd + 128 + d) : rot a c s y = scl hd (a y * c d - a z * s d) := by
  have hd' := d.isLt
  unfold rot
  have e1 : (y : ℕ) / 256 = hd := by omega
  have e2 : (y : ℕ) % 256 = d := by omega
  have e3 : (⟨(y : ℕ) + 128, by omega⟩ : Fin 2048) = z := Fin.ext (by simp only; omega)
  rw [dif_pos (by omega : (y : ℕ) % 256 < 128), e1, e3]
  simp only [e2]

/-- The rotation at a column of the second half of a head. -/
theorem rot_hi (a : Fin 2048 → EReal) (c s : Fin 128 → EReal) (hd : ℕ) (d : Fin 128) (y z : Fin 2048)
    (hy : (y : ℕ) = 256 * hd + 128 + d) (hz : (z : ℕ) = 256 * hd + d) : rot a c s y = scl hd (a y * c d + a z * s d) := by
  have hd' := d.isLt
  unfold rot
  have e1 : (y : ℕ) / 256 = hd := by omega
  have e2 : (y : ℕ) % 256 - 128 = d := by omega
  have e3 : (⟨(y : ℕ) - 128, by omega⟩ : Fin 2048) = z := Fin.ext (by simp only; omega)
  rw [dif_neg (by omega : ¬(y : ℕ) % 256 < 128), e1, e3]
  simp only [e2]

/-- One element of the odd layer's projection, its queries and keys rotated: `cs` and `sn` the tables of 8192 positions. -/
def oddAt (h : FVec Ideal ⟨2, ![16384, 1024]⟩ .f32) (g : FVec Ideal ⟨1, ![1024]⟩ .f32) (w : FVec Ideal ⟨3, ![1, 1024, 6144]⟩ .f32)
    (cs sn : FVec Ideal ⟨2, ![8192, 128]⟩ .f32) (r : Fin 16384) (q : Fin 6144) : EReal :=
  let a : Fin 6144 → EReal := fun q => projected (fun k => h (ix2 r k)) (fun k => g (ix1 k)) (fun k => w (ix3 0 k q))
  if hq : (q : ℕ) < 2048 then
    rot (fun y => a ⟨y, by omega⟩) (fun d => cs (ix2 ⟨(r : ℕ) % 8192, Nat.mod_lt _ (by decide)⟩ d)) (fun d => sn (ix2 ⟨(r : ℕ) % 8192, Nat.mod_lt _ (by decide)⟩ d)) ⟨q, hq⟩
  else a q

end Cert.ProjSpec
-- ==== Proof.EvenIn.Spec.lean ====
module

public import proofs.«01_k».proof.Proof.OddIn.Spec
public import Idealize.ShloMosaic.Lib.IdealHost
public import Idealize.ShloMosaic.Lib.ValueIdx

set_option maxRecDepth 16384

@[expose] public section

noncomputable section

namespace Cert.ProjSpec

open Idealize.ShloMosaic Idealize.ShloMosaic.TcCoe Idealize.SL.Sem

/-- The partial rotation of two heads side by side, 64 columns each: the first 16 columns of a head are rotated, the others kept. -/
def lane (a : Fin 128 → EReal) (c s : Fin 8 → EReal) (l : Fin 128) : EReal :=
  if h : (l : ℕ) % 64 < 8 then a l * c ⟨(l : ℕ) % 64, h⟩ - a ⟨(l : ℕ) + 8, by omega⟩ * s ⟨(l : ℕ) % 64, h⟩
  else if h2 : (l : ℕ) % 64 < 16 then a l * c ⟨(l : ℕ) % 64 - 8, by omega⟩ + a ⟨(l : ℕ) - 8, by omega⟩ * s ⟨(l : ℕ) % 64 - 8, by omega⟩
  else a l

/-- The scale of the queries is the real one eighth. -/
theorem eighth : Ideal.ofBits FTy.f32 0x3E000000#32 = (((1 : ℝ) / 8 : ℝ) : EReal) := by
  simp [Ideal.ofBits, Ideal.ieee, -EReal.coe_mul]; norm_num

/-- Scaling before the rotation is scaling after it. -/
theorem lane_scale (a : Fin 128 → EReal) (c s : Fin 8 → EReal) (l : Fin 128) :
    lane (fun l => a l * Ideal.ofBits FTy.f32 0x3E000000#32) c s l = lane a c s l * Ideal.ofBits FTy.f32 0x3E000000#32 := by
  have h0 : (0 : EReal) ≤ Ideal.ofBits FTy.f32 0x3E000000#32 := by rw [eighth]; exact EReal.coe_nonneg.2 (by norm_num)
  have ht : Ideal.ofBits FTy.f32 0x3E000000#32 ≠ (⊤ : EReal) := by rw [eighth]; exact EReal.coe_ne_top _
  unfold lane
  split_ifs
  · rw [EReal.sub_mul_of_nonneg_of_ne_top h0 ht, mul_right_comm (a l) (c _), mul_right_comm (a _) (s _)]
  · rw [EReal.right_distrib_of_nonneg_of_ne_top h0 ht, mul_right_comm (a l) (c _), mul_right_comm (a _) (s _)]
  · rfl

/-- The rotation by three products with tables: `C` the cosines and ones, `S1` the negated sines of the first halves,
    `S2` the sines of the second halves, zeros elsewhere. -/
theorem lane_eq (a : Fin 128 → EReal) (c s : Fin 8 → EReal) (l : Fin 128) (C S1 S2 : EReal)
    (hC : C = if h : (l : ℕ) % 64 < 8 then c ⟨(l : ℕ) % 64, h⟩ else if h2 : (l : ℕ) % 64 < 16 then c ⟨(l : ℕ) % 64 - 8, by omega⟩ else 1)
    (h1 : S1 = if h : (l : ℕ) % 64 < 8 then -s ⟨(l : ℕ) % 64, h⟩ else 0)
    (h2 : S2 = if h : (l : ℕ) % 64 < 8 then 0 else if h2 : (l : ℕ) % 64 < 16 then s ⟨(l : ℕ) % 64 - 8, by omega⟩ else 0) :
    a l * C + a ⟨((l : ℕ) + 128 - 120) % 128, Nat.mod_lt _ (by decide)⟩ * S1 + a ⟨((l : ℕ) + 128 - 8) % 128, Nat.mod_lt _ (by decide)⟩ * S2 = lane a c s l := by
  subst hC h1 h2
  have hl := l.isLt
  unfold lane
  by_cases ha : (l : ℕ) % 64 < 8
  · simp only [dif_pos ha]
    rw [mul_zero, add_zero, mul_neg, ← sub_eq_add_neg, show (⟨((l : ℕ) + 128 - 120) % 128, Nat.mod_lt _ (by decide)⟩ : Fin 128) = ⟨(l : ℕ) + 8, by omega⟩ from Fin.ext (by simp only; omega)]
  · by_cases hb : (l : ℕ) % 64 < 16
    · simp only [dif_neg ha, dif_pos hb]
      rw [mul_zero, add_zero, show (⟨((l : ℕ) + 128 - 8) % 128, Nat.mod_lt _ (by decide)⟩ : Fin 128) = ⟨(l : ℕ) - 8, by omega⟩ from Fin.ext (by simp only; omega)]
    · simp only [dif_neg ha, dif_neg hb]
      rw [mul_zero, mul_zero, mul_one, add_zero, add_zero]

/-- One element of the even layer's projection: column `q` of row `r`. -/
def evenCol (h : FVec Ideal ⟨2, ![16384, 1024]⟩ .f32) (g : FVec Ideal ⟨1, ![1024]⟩ .f32) (w : FVec Ideal ⟨3, ![1, 1024, 2560]⟩ .f32)
    (r : Fin 16384) (q : Fin 2560) : EReal := projected (fun k => h (ix2 r k)) (fun k => g (ix1 k)) (fun k => w (ix3 0 k q))

/-- One element of the even layer's queries, keys and values, two heads side by side: queries and keys rotated, queries scaled. -/
def evenAt (h : FVec Ideal ⟨2, ![16384, 1024]⟩ .f32) (g : FVec Ideal ⟨1, ![1024]⟩ .f32) (w : FVec Ideal ⟨3, ![1, 1024, 2560]⟩ .f32)
    (cs sn : FVec Ideal ⟨2, ![8192, 8]⟩ .f32) (j : Fin 12) (r : Fin 16384) (l : Fin 128) : EReal :=
  let a : Fin 128 → EReal := fun l => evenCol h g w r ⟨128 * j + l, by omega⟩
  let b := lane a (fun d => cs (ix2 ⟨(r : ℕ) % 8192, Nat.mod_lt _ (by decide)⟩ d)) (fun d => sn (ix2 ⟨(r : ℕ) % 8192, Nat.mod_lt _ (by decide)⟩ d)) l
  if (j : ℕ) < 4 then b * Ideal.ofBits FTy.f32 0x3E000000#32 else if (j : ℕ) < 8 then b else a l

end Cert.ProjSpec
-- ==== Proof.EvenIn.Ref.lean ====
module

public import proofs.«01_k».proof.Proof.Gen.EvenInRefIdeal.Run
public import proofs.«01_k».proof.Proof.EvenIn.Spec
public import Idealize.ShloMosaic.Lib.Claim
public import Idealize.ShloMosaic.Lib.Pointwise

set_option maxRecDepth 16384

@[expose] public section

noncomputable section

namespace Cert.EvenInRef

open Idealize.ShloMosaic Idealize.ShloMosaic.TcCoe Idealize.SL.Sem
open Cert.ProjSpec Cert.EvenInRefIdeal Cert.EvenInRefIdeal.Gen Cert.EvenInRefIdeal.Value

/-- The rotary angles: the position times the frequency. -/
def angles : FVec Ideal S8192x8 .f32 := (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))))))

/-- The cosines of the rotary angles. -/
def cosT : FVec Ideal S8192x8 .f32 := Host.cos angles

/-- The sines of the rotary angles. -/
def sinT : FVec Ideal S8192x8 .f32 := Host.sin angles

variable (h : FVec Ideal S16384x1024 .f32) (g : FVec Ideal S1024 .f32) (w : FVec Ideal S1x1024x2560 .f32)

/-- The normed rows' product with the weight. -/
def proj : FVec Ideal S2x8192x2560 .f32 := (Host.dotGeneral dot_S2x8192x1024_S1024x2560_S2x8192x2560_2_0_01_1_n_n none (mulf (mulf (shapeCast _ h shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ h shapeCasts_S16384x1024_S2x8192x1024) (shapeCast _ h shapeCasts_S16384x1024_S2x8192x1024)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (shapeCast _ w shapeCasts_S1x1024x2560_S1024x2560))

/-- The product at an index. -/
theorem proj_apply (b : Fin 2) (s : Fin 8192) (q : Fin 2560) (r : Fin 16384) (hr : (r : ℕ) = b * 8192 + s) :
    proj h g w (ix3 b s q) = evenCol h g w r q := by
  unfold proj
  pointwise
  have e : (⟨b * 8192 + s, by omega⟩ : Fin 16384) = r := Fin.ext hr.symm
  simp only [e]
  rfl

/-- The queries, head by head. -/
def queries : FVec Ideal S2x8x8192x64 .f32 := transpose S2x8x8192x64 [0, 2, 1, 3] (shapeCast _ (extractStridedSlice S2x8192x512 ![0, 0, 0] (proj h g w) slices_S2x8192x2560_S2x8192x512_0_0_0) shapeCasts_S2x8192x512_S2x8192x8x64) transposes_S2x8192x8x64_S2x8x8192x64_0_2_1_3

/-- One of the queries at an index. -/
theorem queries_apply (b : Fin 2) (hd : Fin 8) (s : Fin 8192) (d : Fin 64) :
    queries h g w (ix4 b hd s d) = proj h g w (ix3 b s ⟨0 + (hd * 64 + d), by omega⟩) := by
  unfold queries
  pointwise

/-- The keys, head by head. -/
def keys : FVec Ideal S2x8x8192x64 .f32 := transpose S2x8x8192x64 [0, 2, 1, 3] (shapeCast _ (extractStridedSlice S2x8192x512 ![0, 0, 512] (proj h g w) slices_S2x8192x2560_S2x8192x512_0_0_512) shapeCasts_S2x8192x512_S2x8192x8x64) transposes_S2x8192x8x64_S2x8x8192x64_0_2_1_3

/-- One of the keys at an index. -/
theorem keys_apply (b : Fin 2) (hd : Fin 8) (s : Fin 8192) (d : Fin 64) :
    keys h g w (ix4 b hd s d) = proj h g w (ix3 b s ⟨512 + (hd * 64 + d), by omega⟩) := by
  unfold keys
  pointwise

/-- The values, head by head. -/
def values : FVec Ideal S2x8x8192x64 .f32 := transpose S2x8x8192x64 [0, 2, 1, 3] (shapeCast _ (extractStridedSlice S2x8192x512 ![0, 0, 1024] (proj h g w) slices_S2x8192x2560_S2x8192x512_0_0_1024) shapeCasts_S2x8192x512_S2x8192x8x64) transposes_S2x8192x8x64_S2x8x8192x64_0_2_1_3

/-- One of the values at an index. -/
theorem values_apply (b : Fin 2) (hd : Fin 8) (s : Fin 8192) (d : Fin 64) :
    values h g w (ix4 b hd s d) = proj h g w (ix3 b s ⟨1024 + (hd * 64 + d), by omega⟩) := by
  unfold values
  pointwise

/-- The partial rotation of the heads. -/
def rotated (x : FVec Ideal S2x8x8192x64 .f32) : FVec Ideal S2x8x8192x64 .f32 :=
  concatenate S2x8x8192x64 3 [⟨S2x8x8192x16, (concatenate S2x8x8192x16 3
      [⟨S2x8x8192x8, (subf (mulf (extractStridedSlice S2x8x8192x8 ![0, 0, 0, 0] (extractStridedSlice S2x8x8192x16 ![0, 0, 0, 0] x slices_S2x8x8192x64_S2x8x8192x16_0_0_0_0) slices_S2x8x8192x16_S2x8x8192x8_0_0_0_0) (broadcastInDim S2x8x8192x8 ![0, 1, 2, 3] bcast_S1x1x8192x8_S2x8x8192x8_0_1_2_3 (broadcastInDim S1x1x8192x8 ![2, 3] bcast_S8192x8_S1x1x8192x8_2_3 cosT))) (mulf (extractStridedSlice S2x8x8192x8 ![0, 0, 0, 8] (extractStridedSlice S2x8x8192x16 ![0, 0, 0, 0] x slices_S2x8x8192x64_S2x8x8192x16_0_0_0_0) slices_S2x8x8192x16_S2x8x8192x8_0_0_0_8) (broadcastInDim S2x8x8192x8 ![0, 1, 2, 3] bcast_S1x1x8192x8_S2x8x8192x8_0_1_2_3 (broadcastInDim S1x1x8192x8 ![2, 3] bcast_S8192x8_S1x1x8192x8_2_3 sinT))))⟩,
       ⟨S2x8x8192x8, (addf (mulf (extractStridedSlice S2x8x8192x8 ![0, 0, 0, 8] (extractStridedSlice S2x8x8192x16 ![0, 0, 0, 0] x slices_S2x8x8192x64_S2x8x8192x16_0_0_0_0) slices_S2x8x8192x16_S2x8x8192x8_0_0_0_8) (broadcastInDim S2x8x8192x8 ![0, 1, 2, 3] bcast_S1x1x8192x8_S2x8x8192x8_0_1_2_3 (broadcastInDim S1x1x8192x8 ![2, 3] bcast_S8192x8_S1x1x8192x8_2_3 cosT))) (mulf (extractStridedSlice S2x8x8192x8 ![0, 0, 0, 0] (extractStridedSlice S2x8x8192x16 ![0, 0, 0, 0] x slices_S2x8x8192x64_S2x8x8192x16_0_0_0_0) slices_S2x8x8192x16_S2x8x8192x8_0_0_0_0) (broadcastInDim S2x8x8192x8 ![0, 1, 2, 3] bcast_S1x1x8192x8_S2x8x8192x8_0_1_2_3 (broadcastInDim S1x1x8192x8 ![2, 3] bcast_S8192x8_S1x1x8192x8_2_3 sinT))))⟩] concatenates_S2x8x8192x8_S2x8x8192x8_S2x8x8192x16_d3)⟩,
    ⟨S2x8x8192x48, (extractStridedSlice S2x8x8192x48 ![0, 0, 0, 16] x slices_S2x8x8192x64_S2x8x8192x48_0_0_0_16)⟩] concatenates_S2x8x8192x16_S2x8x8192x48_S2x8x8192x64_d3

/-- The partial rotation of a head of a pair is the rotation of the pair's columns. -/
theorem rotated_lane (x : FVec Ideal S2x8x8192x64 .f32) (a : Fin 128 → EReal) (b : Fin 2) (hd : Fin 8) (s : Fin 8192) (l : Fin 128)
    (hx : ∀ (d : Fin 64) (y : Fin 128), (y : ℕ) = 64 * ((l : ℕ) / 64) + d → x (ix4 b hd s d) = a y) :
    rotated x (ix4 b hd s ⟨(l : ℕ) % 64, Nat.mod_lt _ (by decide)⟩) = lane a (fun d => cosT (ix2 s d)) (fun d => sinT (ix2 s d)) l := by
  unfold rotated
  pointwise
  have hl := l.isLt
  unfold lane
  by_cases ha : (l : ℕ) % 64 < 8
  · rw [dif_pos (show (l : ℕ) % 64 < 16 by omega), dif_pos ha, dif_pos ha, hx ⟨(l : ℕ) % 64, by omega⟩ l (by simp only; omega),
      hx ⟨8 + (l : ℕ) % 64, by omega⟩ ⟨(l : ℕ) + 8, by omega⟩ (by simp only; omega)]
  · by_cases hb : (l : ℕ) % 64 < 16
    · rw [dif_pos hb, dif_neg ha, dif_neg ha, dif_pos hb, hx ⟨8 + ((l : ℕ) % 64 - 8), by omega⟩ l (by simp only; omega),
        hx ⟨(l : ℕ) % 64 - 8, by omega⟩ ⟨(l : ℕ) - 8, by omega⟩ (by simp only; omega)]
    · rw [dif_neg hb, dif_neg ha, dif_neg hb, hx ⟨16 + ((l : ℕ) % 64 - 16), by omega⟩ l (by simp only; omega)]

/-- Two heads side by side. -/
def pairs (x : FVec Ideal S2x8x8192x64 .f32) : FVec Ideal S4x16384x128 .f32 :=
  shapeCast _ (transpose S4x2x8192x2x64 [1, 0, 3, 2, 4] (shapeCast _ x shapeCasts_S2x8x8192x64_S2x4x2x8192x64) transposes_S2x4x2x8192x64_S4x2x8192x2x64_1_0_3_2_4) shapeCasts_S4x2x8192x2x64_S4x16384x128

/-- Two heads side by side at an index. -/
theorem pairs_apply (x : FVec Ideal S2x8x8192x64 .f32) (j : Fin 4) (r : Fin 16384) (l : Fin 128) :
    pairs x (ix3 j r l) = x (ix4 ⟨(r : ℕ) / 8192, by omega⟩ ⟨j * 2 + (l : ℕ) / 64, by omega⟩ ⟨(r : ℕ) % 8192, Nat.mod_lt _ (by decide)⟩ ⟨(l : ℕ) % 64, Nat.mod_lt _ (by decide)⟩) := by
  unfold pairs
  pointwise

/-- The scaled heads at an index. -/
theorem scaled_apply (x : FVec Ideal S2x8x8192x64 .f32) (b : Fin 2) (hd : Fin 8) (s : Fin 8192) (d : Fin 64) :
    mulf x (broadcastInDim S2x8x8192x64 ![] bcast_S_S2x8x8192x64 (constant S_ .f32 0x3E000000#32)) (ix4 b hd s d) = x (ix4 b hd s d) * Ideal.ofBits FTy.f32 0x3E000000#32 := by
  pointwise

/-- Queries, keys and values one after the other. -/
def joined : FVec Ideal S12x16384x128 .f32 :=
  concatenate S12x16384x128 0 [⟨S4x16384x128, (pairs (mulf (rotated (queries h g w)) (broadcastInDim S2x8x8192x64 ![] bcast_S_S2x8x8192x64 (constant S_ .f32 0x3E000000#32))))⟩,
    ⟨S4x16384x128, (pairs (rotated (keys h g w)))⟩, ⟨S4x16384x128, (pairs (values h g w))⟩] concatenates_S4x16384x128_S4x16384x128_S4x16384x128_S12x16384x128_d0

/-- The reference's first result. -/
theorem res_eq (m : (ℓ : Loc nD τ sig) → Buf (Elt Ideal) ℓ) (c : Dev nD) :
    res_main_v95 m c = joined (m ((c.tc : Thread nD τ).loc main_arg0)) (m ((c.tc : Thread nD τ).loc main_arg1)) (m ((c.tc : Thread nD τ).loc main_arg2)) := by
  unfold res_main_v95 joined pairs rotated queries keys values proj cosT sinT angles
  rfl

/-- The first result at an index. -/
theorem joined_apply (j : Fin 12) (r : Fin 16384) (l : Fin 128) : joined h g w (ix3 j r l) = evenAt h g w cosT sinT j r l := by
  unfold joined
  pointwise
  have hr := r.isLt
  have hl := l.isLt
  have hp : ∀ q : Fin 2560, proj h g w (ix3 ⟨(r : ℕ) / 8192, by omega⟩ ⟨(r : ℕ) % 8192, by omega⟩ q) = evenCol h g w r q :=
    fun q => proj_apply h g w _ _ q r (by simp only; omega)
  unfold evenAt
  simp only
  by_cases h1 : (j : ℕ) < 4
  · rw [dif_pos h1, if_pos h1, pairs_apply, scaled_apply]
    exact congrArg (· * Ideal.ofBits FTy.f32 0x3E000000#32) (rotated_lane _ _ _ _ _ l fun d y hy =>
      (queries_apply ..).trans ((hp _).trans (congrArg (evenCol h g w r) (Fin.ext (by simp only; omega)))))
  · rw [dif_neg h1, if_neg h1]
    by_cases h2 : (j : ℕ) - 4 < 4
    · rw [dif_pos h2, if_pos (show (j : ℕ) < 8 by omega), pairs_apply]
      exact rotated_lane _ _ _ _ _ l fun d y hy =>
        (keys_apply ..).trans ((hp _).trans (congrArg (evenCol h g w r) (Fin.ext (by simp only; omega))))
    · rw [dif_neg h2, if_neg (show ¬(j : ℕ) < 8 by omega), pairs_apply]
      exact (values_apply ..).trans ((hp _).trans (congrArg (evenCol h g w r) (Fin.ext (by simp only; omega))))

/-- The convolution's values and gates. -/
def conv : FVec Ideal S16384x1024 .bf16 :=
  truncf .bf16 (shapeCast _ (extractStridedSlice S2x8192x1024 ![0, 0, 1536] (proj h g w) slices_S2x8192x2560_S2x8192x1024_0_0_1536) shapeCasts_S2x8192x1024_S16384x1024) bitsLt_bf16_f32

/-- The second result at an index. -/
theorem conv_apply (r : Fin 16384) (q : Fin 1024) : conv h g w (ix2 r q) = evenCol h g w r ⟨1536 + q, by omega⟩ := by
  unfold conv
  pointwise
  exact proj_apply h g w _ _ _ r (by simp only; omega)

end Cert.EvenInRef
-- ==== Proof.EvenIn.Kernel.lean ====
module

public import proofs.«01_k».proof.Proof.Gen.EvenInIdeal.Value
public import proofs.«01_k».proof.Proof.EvenIn.Ref
public import Idealize.ShloMosaic.Lib.Pipeline.ValueKit
public import Idealize.ShloMosaic.Lib.Pipeline.ReadBack
public import Idealize.ShloMosaic.Lib.Claim

set_option maxRecDepth 16384

@[expose] public section

noncomputable section

namespace Cert.EvenInKernel

open Idealize.ShloMosaic Idealize.ShloMosaic.TcCoe Idealize.SL.Sem
open Cert.ProjSpec Cert.EvenInIdeal Cert.EvenInIdeal.Gen Cert.EvenInIdeal.Value

variable (m : (ℓ : Loc nD τ sig) → Buf (Elt Ideal) ℓ)

/-- The cast weight at an index. -/
theorem pay7_apply (w : FVec Ideal S1x1024x2560 .f32) (k : Fin 1024) (q : Fin 2560) : k0_pay7 (F := Ideal) w (ix2 k q) = w (ix3 0 k q) := by
  pointwise [k0_pay7]

/-- The product of a row tile's normed rows and the weight at an index. -/
theorem pay8_apply (h : FVec Ideal S512x1024 .f32) (g : FVec Ideal S1x1024 .f32) (w : FVec Ideal S1024x2560 .bf16) (i : Fin 512) (q : Fin 2560) :
    k0_pay8 (F := Ideal) h g w (ix2 i q) = projected (fun k => h (ix2 i k)) (fun k => g (ix2 0 k)) (fun k => w (ix2 k q)) := by
  pointwise [k0_pay8]
  rfl

/-- The first point leaves the cast weight in the scratch. -/
theorem soutA (c : Dev nD) (t : Fin cfg0.N) (acc : Vec Ideal S12x512x128 .f32 × Vec Ideal S512x1024 .bf16 × Vec Ideal S1024x2560 .bf16) (h0 : t.val % 32 = 0) (k : Fin 1024) (q : Fin 2560) :
    (stAt0 m c t.val t.isLt acc).2.2 (ix2 k q) = iblk m c 2 t (ix3 0 k q) := by
  rw [stAt0_A m c t acc h0]
  dsimp only
  frame_out
  exact pay7_apply _ k q

/-- A later point keeps the scratch. -/
theorem soutB (c : Dev nD) (t : Fin cfg0.N) (acc : Vec Ideal S12x512x128 .f32 × Vec Ideal S512x1024 .bf16 × Vec Ideal S1024x2560 .bf16) (h0 : ¬t.val % 32 = 0) :
    (stAt0 m c t.val t.isLt acc).2.2 = acc.2.2 := by
  rw [stAt0_B m c t acc h0]; rfl

/-- What a point writes of the queries, keys and values: `p` the projection of the row tile, `C`, `S1`, `S2` the tables' rows. -/
def outLane (p : FVec Ideal S512x2560 .f32) (C S1 S2 : FVec Ideal S512x128 .f32) (j : Fin 12) (i : Fin 512) (l : Fin 128) : EReal :=
  let a : Fin 128 → EReal := fun l => p (ix2 i ⟨128 * j + l, by omega⟩)
  let r : (Fin 128 → EReal) → EReal := fun a => a l * C (ix2 i l) + a ⟨((l : ℕ) + 128 - 120) % 128, Nat.mod_lt _ (by decide)⟩ * S1 (ix2 i l)
    + a ⟨((l : ℕ) + 128 - 8) % 128, Nat.mod_lt _ (by decide)⟩ * S2 (ix2 i l)
  if (j : ℕ) < 4 then r (fun l => a l * Ideal.ofBits FTy.f32 0x3E000000#32) else if (j : ℕ) < 8 then r a else a l

/-- A piece of the first output's block. -/
theorem piece (P : FVec Ideal S1x512x128 .f32) (f : Fin 12 → Fin 512 → Fin 128 → EReal) (n : ℕ) (hn : n < 12) (x : S1x512x128.Idx) (j : Fin 12) (i : Fin 512) (l : Fin 128)
    (hx0 : (j : ℕ) = n + (x 0 : ℕ)) (hx1 : (i : ℕ) = (x 1 : ℕ)) (hx2 : (l : ℕ) = (x 2 : ℕ)) (hP : P (ix3 0 i l) = f ⟨n, hn⟩ i l) : P x = f j i l := by
  obtain rfl : i = x 1 := Fin.ext hx1
  obtain rfl : l = x 2 := Fin.ext hx2
  have h : (x 0 : ℕ) = 0 := Nat.lt_one_iff.1 (x 0).isLt
  obtain rfl : j = ⟨n, hn⟩ := Fin.ext (hx0.trans (by rw [h, Nat.add_zero]))
  rw [← hP]
  exact congrArg P ((eq_ix3 x).trans (congrArg (fun a => ix3 a (x 1) (x 2)) (Fin.ext h)))

set_option maxHeartbeats 2000000 in
/-- What a point writes of the first output: `W` the scratch after the point. -/
theorem out6 (c : Dev nD) (t : Fin cfg0.N) (acc : Vec Ideal S12x512x128 .f32 × Vec Ideal S512x1024 .bf16 × Vec Ideal S1024x2560 .bf16) (j : Fin 12) (i : Fin 512) (l : Fin 128)
    (W : FVec Ideal S1024x2560 .bf16) (hW : W = if t.val % 32 = 0 then k0_pay7 (F := Ideal) (iblk m c 2 t) else acc.2.2) :
    (stAt0 m c t.val t.isLt acc).1 (ix3 j i l) = outLane (k0_pay8 (F := Ideal) (iblk m c 0 t) (iblk m c 1 t) W) (iblk m c 3 t) (iblk m c 4 t) (iblk m c 5 t) j i l := by
  by_cases h0 : t.val % 32 = 0
  on_goal 1 =>
    rw [if_pos h0] at hW
    rw [stAt0_A m c t acc h0]
    dsimp only
    frame_open
    simp (disch := decide) only [↓ View.readCov_skip, ↓ View.readCov_cons_toLoadRect, ↓ View.readCov_fill]
    frame_out
    rw [← hW]
  on_goal 2 =>
    rw [if_neg h0] at hW
    rw [stAt0_B m c t acc h0]
    dsimp only
    frame_out
    rw [(Memref.isWhole_whole cc0_scratch0).read_unread acc.2.2, ← hW]
  all_goals
    canon_tiles x hx
  all_goals
    change (j : ℕ) = _ at hx0
    change (i : ℕ) = _ at hx1
    change (l : ℕ) = _ at hx2
    first
    | refine piece _ (outLane (k0_pay8 (F := Ideal) (iblk m c 0 t) (iblk m c 1 t) W) (iblk m c 3 t) (iblk m c 4 t) (iblk m c 5 t)) _ (by decide) x j i l hx0 hx1 hx2 ?_
    | refine piece _ (outLane (k0_pay8 (F := Ideal) (iblk m c 0 t) (iblk m c 1 t) W) (iblk m c 3 t) (iblk m c 4 t) (iblk m c 5 t)) 0 (by decide) x j i l (by omega) hx1 hx2 ?_
    pointwise [k0_pay1, k0_pay2, k0_pay3, k0_pay4, k0_pay5, k0_pay9, k0_pay10, k0_pay11, k0_pay12, k0_pay13, k0_pay14, k0_pay15, k0_pay16, k0_pay17, k0_pay18, k0_pay19, k0_pay20, k0_pay21, k0_pay22]
    simp [outLane]

/-- What a point writes of the second output. -/
theorem out7 (c : Dev nD) (t : Fin cfg0.N) (acc : Vec Ideal S12x512x128 .f32 × Vec Ideal S512x1024 .bf16 × Vec Ideal S1024x2560 .bf16) (i : Fin 512) (q : Fin 1024)
    (W : FVec Ideal S1024x2560 .bf16) (hW : W = if t.val % 32 = 0 then k0_pay7 (F := Ideal) (iblk m c 2 t) else acc.2.2) :
    (stAt0 m c t.val t.isLt acc).2.1 (ix2 i q) = k0_pay8 (F := Ideal) (iblk m c 0 t) (iblk m c 1 t) W (ix2 i ⟨1536 + q, by omega⟩) := by
  by_cases h0 : t.val % 32 = 0
  on_goal 1 =>
    rw [if_pos h0] at hW
    rw [stAt0_A m c t acc h0]
    dsimp only
    frame_open
    simp (disch := decide) only [↓ View.readCov_skip, ↓ View.readCov_cons_toLoadRect, ↓ View.readCov_fill]
    frame_out
    rw [← hW]
  on_goal 2 =>
    rw [if_neg h0] at hW
    rw [stAt0_B m c t acc h0]
    dsimp only
    frame_out
    rw [(Memref.isWhole_whole cc0_scratch0).read_unread acc.2.2, ← hW]
  all_goals pointwise [k0_pay6]

/-- The index maps of the six input windows. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![t.val % 16, 0] := (by decide +kernel : ∀ t : Fin grid0.N, _)
theorem idx4 : ∀ t : Fin cfg0.N, win0_4.index t = ![t.val % 16, 0] := (by decide +kernel : ∀ t : Fin grid0.N, _)
theorem idx5 : ∀ t : Fin cfg0.N, win0_5.index t = ![t.val % 16, 0] := (by decide +kernel : ∀ t : Fin grid0.N, _)

/-- The host's table of cosines and ones. -/
def tabC : FVec Ideal S8192x128 .f32 := shapeCast S8192x128 (broadcastInDim S1x8192x2x64 ![0, 1, 2, 3] bcast_S1x8192x1x64_S1x8192x2x64_0_1_2_3 (shapeCast S1x8192x1x64 (concatenate S8192x64 1 [⟨S8192x8, EvenInRef.cosT⟩, ⟨S8192x8, EvenInRef.cosT⟩, ⟨S8192x48, (broadcastInDim S8192x48 ![] bcast_S_S8192x48 (constant S_ .f32 0x3F800000#32))⟩] concatenates_S8192x8_S8192x8_S8192x48_S8192x64_d1) shapeCasts_S8192x64_S1x8192x1x64)) shapeCasts_S1x8192x2x64_S8192x128

/-- The host's table of negated sines. -/
def tabS1 : FVec Ideal S8192x128 .f32 := shapeCast S8192x128 (broadcastInDim S1x8192x2x64 ![0, 1, 2, 3] bcast_S1x8192x1x64_S1x8192x2x64_0_1_2_3 (shapeCast S1x8192x1x64 (concatenate S8192x64 1 [⟨S8192x8, (Host.negf EvenInRef.sinT)⟩, ⟨S8192x8, (broadcastInDim S8192x8 ![] bcast_S_S8192x8 (constant S_ .f32 0x00000000#32))⟩, ⟨S8192x48, (broadcastInDim S8192x48 ![] bcast_S_S8192x48 (constant S_ .f32 0x00000000#32))⟩] concatenates_S8192x8_S8192x8_S8192x48_S8192x64_d1) shapeCasts_S8192x64_S1x8192x1x64)) shapeCasts_S1x8192x2x64_S8192x128

/-- The host's table of sines. -/
def tabS2 : FVec Ideal S8192x128 .f32 := shapeCast S8192x128 (broadcastInDim S1x8192x2x64 ![0, 1, 2, 3] bcast_S1x8192x1x64_S1x8192x2x64_0_1_2_3 (shapeCast S1x8192x1x64 (concatenate S8192x64 1 [⟨S8192x8, (broadcastInDim S8192x8 ![] bcast_S_S8192x8 (constant S_ .f32 0x00000000#32))⟩, ⟨S8192x8, EvenInRef.sinT⟩, ⟨S8192x48, (broadcastInDim S8192x48 ![] bcast_S_S8192x48 (constant S_ .f32 0x00000000#32))⟩] concatenates_S8192x8_S8192x8_S8192x48_S8192x64_d1) shapeCasts_S8192x64_S1x8192x1x64)) shapeCasts_S1x8192x2x64_S8192x128

/-- The host's tables as the launch reads them. -/
theorem entry_v27 (c : Dev nD) : V m c main_v27 = tabC := rfl
theorem entry_v30 (c : Dev nD) : V m c main_v30 = tabS1 := rfl
theorem entry_v33 (c : Dev nD) : V m c main_v33 = tabS2 := rfl

/-- The table of cosines and ones at an index. -/
theorem tabC_apply (s : Fin 8192) (l : Fin 128) : tabC (ix2 s l) = if h : (l : ℕ) % 64 < 8 then EvenInRef.cosT (ix2 s ⟨(l : ℕ) % 64, h⟩)
    else if h2 : (l : ℕ) % 64 < 16 then EvenInRef.cosT (ix2 s ⟨(l : ℕ) % 64 - 8, by omega⟩) else 1 := by
  unfold tabC
  pointwise
  by_cases h : (l : ℕ) % 64 < 8
  · rw [dif_pos h, dif_pos h]
  · rw [dif_neg h, dif_neg h]
    by_cases h2 : (l : ℕ) % 64 < 16
    · rw [dif_pos (show (l : ℕ) % 64 - 8 < 8 by omega), dif_pos h2]
    · rw [dif_neg (show ¬(l : ℕ) % 64 - 8 < 8 by omega), dif_neg h2]

/-- The table of negated sines at an index. -/
theorem tabS1_apply (s : Fin 8192) (l : Fin 128) : tabS1 (ix2 s l) = if h : (l : ℕ) % 64 < 8 then -EvenInRef.sinT (ix2 s ⟨(l : ℕ) % 64, h⟩) else 0 := by
  unfold tabS1
  pointwise
  by_cases h : (l : ℕ) % 64 < 8
  · rw [dif_pos h, dif_pos h]
  · rw [dif_neg h, dif_neg h]
    by_cases h2 : (l : ℕ) % 64 < 16
    · rw [dif_pos (show (l : ℕ) % 64 - 8 < 8 by omega)]
    · rw [dif_neg (show ¬(l : ℕ) % 64 - 8 < 8 by omega)]

/-- The table of sines at an index. -/
theorem tabS2_apply (s : Fin 8192) (l : Fin 128) : tabS2 (ix2 s l) = if h : (l : ℕ) % 64 < 8 then 0
    else if h2 : (l : ℕ) % 64 < 16 then EvenInRef.sinT (ix2 s ⟨(l : ℕ) % 64 - 8, by omega⟩) else 0 := by
  unfold tabS2
  pointwise
  by_cases h : (l : ℕ) % 64 < 8
  · rw [dif_pos h, dif_pos h]
  · rw [dif_neg h, dif_neg h]
    by_cases h2 : (l : ℕ) % 64 < 16
    · rw [dif_pos (show (l : ℕ) % 64 - 8 < 8 by omega), dif_pos h2]
    · rw [dif_neg (show ¬(l : ℕ) % 64 - 8 < 8 by omega), dif_neg h2]

/-- The reshaped gain is the gain. -/
theorem entry_v34 (c : Dev nD) (k : Fin 1024) : V m c main_v34 (ix2 0 k) = V m c main_arg1 (ix1 k) := by
  have e : V m c main_v34 = (shapeCast S1x1024 (m ((c.tc : Thread nD τ).loc main_arg1) : FVec Ideal S1024 .f32) shapeCasts_S1024_S1x1024 : FVec Ideal S1x1024 .f32) := rfl
  rw [V_main_arg1, e]
  pointwise

/-- The rows a point reads. -/
theorem read0 (c : Dev nD) (t : Fin cfg0.N) (i : Fin 512) (k : Fin 1024) (r : Fin 16384) (hr : (r : ℕ) = t.val * 512 + i) :
    iblk m c 0 t (ix2 i k) = V m c main_arg0 (ix2 r k) := by
  blk_ext [iblk, idx0 t]

/-- The gain, whole at every point. -/
theorem read1 (c : Dev nD) (t : Fin cfg0.N) (k : Fin 1024) : iblk m c 1 t (ix2 0 k) = V m c main_arg1 (ix1 k) := by
  rw [← entry_v34 m c k]
  blk_ext [iblk, idx1 t]

/-- The weight, whole at every point. -/
theorem read2 (c : Dev nD) (t : Fin cfg0.N) (k : Fin 1024) (q : Fin 2560) : iblk m c 2 t (ix3 0 k q) = V m c main_arg2 (ix3 0 k q) := by
  blk_ext [iblk, idx2 t]

/-- The tables' rows a point reads. -/
theorem read3 (c : Dev nD) (t : Fin cfg0.N) (i : Fin 512) (l : Fin 128) (s : Fin 8192) (hs : (s : ℕ) = t.val % 16 * 512 + i) :
    iblk m c 3 t (ix2 i l) = tabC (ix2 s l) := by
  rw [← entry_v27 m c]
  blk_ext [iblk, idx3 t]
theorem read4 (c : Dev nD) (t : Fin cfg0.N) (i : Fin 512) (l : Fin 128) (s : Fin 8192) (hs : (s : ℕ) = t.val % 16 * 512 + i) :
    iblk m c 4 t (ix2 i l) = tabS1 (ix2 s l) := by
  rw [← entry_v30 m c]
  blk_ext [iblk, idx4 t]
theorem read5 (c : Dev nD) (t : Fin cfg0.N) (i : Fin 512) (l : Fin 128) (s : Fin 8192) (hs : (s : ℕ) = t.val % 16 * 512 + i) :
    iblk m c 5 t (ix2 i l) = tabS2 (ix2 s l) := by
  rw [← entry_v33 m c]
  blk_ext [iblk, idx5 t]

/-- After every point the scratch holds the cast weight. -/
theorem scratch_eq (c : Dev nD) (k : Fin 1024) (q : Fin 2560) : ∀ (n : ℕ) (hn : n < cfg0.N), (outsAt0 m c n hn).2.2 (ix2 k q) = V m c main_arg2 (ix3 0 k q)
  | 0, hn => by rw [outsAt0_zero m c hn, soutA m c ⟨0, hn⟩ junk0 rfl k q]; exact read2 m c ⟨0, hn⟩ k q
  | n + 1, hn => by
    have hN := lt_of_lt_of_eq hn (show cfg0.N = 32 from N_0)
    rw [outsAt0_succ m c n hn, soutB m c ⟨n + 1, hn⟩ _ (show ¬(n + 1) % 32 = 0 by omega)]
    exact scratch_eq c k q n _

/-- What a point writes, from the scratch after it. -/
theorem out_step (c : Dev nD) (t : Fin cfg0.N) (acc : Vec Ideal S12x512x128 .f32 × Vec Ideal S512x1024 .bf16 × Vec Ideal S1024x2560 .bf16) (i : Fin 512)
    (hS : ∀ (k : Fin 1024) (q : Fin 2560), (stAt0 m c t.val t.isLt acc).2.2 (ix2 k q) = V m c main_arg2 (ix3 0 k q))
    (r : Fin 16384) (hr : (r : ℕ) = t.val * 512 + i) :
    (∀ (j : Fin 12) (l : Fin 128), (stAt0 m c t.val t.isLt acc).1 (ix3 j i l) = evenAt (V m c main_arg0) (V m c main_arg1) (V m c main_arg2) EvenInRef.cosT EvenInRef.sinT j r l)
    ∧ ∀ q : Fin 1024, (stAt0 m c t.val t.isLt acc).2.1 (ix2 i q) = evenCol (V m c main_arg0) (V m c main_arg1) (V m c main_arg2) r ⟨1536 + q, by omega⟩ := by
  have hN := lt_of_lt_of_eq t.isLt (show cfg0.N = 32 from N_0)
  obtain ⟨W, hW1⟩ : ∃ W : FVec Ideal S1024x2560 .bf16, W = if t.val % 32 = 0 then k0_pay7 (F := Ideal) (iblk m c 2 t) else acc.2.2 := ⟨_, rfl⟩
  have hW2 : ∀ (k : Fin 1024) (q : Fin 2560), W (ix2 k q) = V m c main_arg2 (ix3 0 k q) := by
    intro k q
    by_cases h0 : t.val % 32 = 0
    · rw [hW1, if_pos h0, pay7_apply]; exact read2 m c t k q
    · rw [hW1, if_neg h0, ← hS k q, soutB m c t acc h0]
  have hp : ∀ q : Fin 2560, k0_pay8 (F := Ideal) (iblk m c 0 t) (iblk m c 1 t) W (ix2 i q) = evenCol (V m c main_arg0) (V m c main_arg1) (V m c main_arg2) r q := by
    intro q
    rw [pay8_apply, funext fun k => read0 m c t i k r hr, funext fun k => read1 m c t k, funext fun k => hW2 k q]
    rfl
  refine ⟨fun j l => ?_, fun q => (out7 m c t acc i q W hW1).trans (hp _)⟩
  have hs : (r : ℕ) % 8192 = t.val % 16 * 512 + i := by omega
  rw [out6 m c t acc j i l W hW1]
  unfold outLane evenAt
  simp only [hp]
  rw [read3 m c t i l ⟨(r : ℕ) % 8192, Nat.mod_lt _ (by decide)⟩ hs, read4 m c t i l ⟨(r : ℕ) % 8192, Nat.mod_lt _ (by decide)⟩ hs,
    read5 m c t i l ⟨(r : ℕ) % 8192, Nat.mod_lt _ (by decide)⟩ hs]
  have e := fun a => lane_eq a (fun d => EvenInRef.cosT (ix2 ⟨(r : ℕ) % 8192, Nat.mod_lt _ (by decide)⟩ d)) (fun d => EvenInRef.sinT (ix2 ⟨(r : ℕ) % 8192, Nat.mod_lt _ (by decide)⟩ d)) l
    _ _ _ (tabC_apply ⟨(r : ℕ) % 8192, Nat.mod_lt _ (by decide)⟩ l) (tabS1_apply ⟨(r : ℕ) % 8192, Nat.mod_lt _ (by decide)⟩ l) (tabS2_apply ⟨(r : ℕ) % 8192, Nat.mod_lt _ (by decide)⟩ l)
  by_cases h1 : (j : ℕ) < 4
  · rw [if_pos h1, if_pos h1, ← lane_scale]
    exact e fun l => evenCol (V m c main_arg0) (V m c main_arg1) (V m c main_arg2) r ⟨128 * j + l, by omega⟩ * Ideal.ofBits FTy.f32 0x3E000000#32
  · rw [if_neg h1, if_neg h1]
    by_cases h2 : (j : ℕ) < 8
    · rw [if_pos h2, if_pos h2]
      exact e fun l => evenCol (V m c main_arg0) (V m c main_arg1) (V m c main_arg2) r ⟨128 * j + l, by omega⟩
    · rw [if_neg h2, if_neg h2]

/-- What point `n` leaves in the output windows. -/
theorem out_eq (c : Dev nD) (i : Fin 512) (n : ℕ) (hn : n < cfg0.N) (r : Fin 16384) (hr : (r : ℕ) = n * 512 + i) :
    (∀ (j : Fin 12) (l : Fin 128), (outsAt0 m c n hn).1 (ix3 j i l) = evenAt (V m c main_arg0) (V m c main_arg1) (V m c main_arg2) EvenInRef.cosT EvenInRef.sinT j r l)
    ∧ ∀ q : Fin 1024, (outsAt0 m c n hn).2.1 (ix2 i q) = evenCol (V m c main_arg0) (V m c main_arg1) (V m c main_arg2) r ⟨1536 + q, by omega⟩ := by
  have hs := fun k q => scratch_eq m c k q n hn
  cases n with
  | zero =>
    simp only [outsAt0_zero m c hn] at hs ⊢
    exact out_step m c ⟨0, hn⟩ junk0 i hs r hr
  | succ n =>
    simp only [outsAt0_succ m c n hn] at hs ⊢
    exact out_step m c ⟨n + 1, hn⟩ _ i hs r hr

/-- The kernel's first output array is the queries, keys and values. -/
theorem G6_apply (c : Dev nD) (j : Fin 12) (r : Fin 16384) (l : Fin 128) :
    G6 m c (ix3 j r l) = evenAt (V m c main_arg0) (V m c main_arg1) (V m c main_arg2) EvenInRef.cosT EvenInRef.sinT j r l := by
  have hN : cfg0.N = 32 := N_0
  have hp : pt6Of (ix3 j r l) = (r : ℕ) / 512 := by
    show 32 * ((j : ℕ) / 12 - 0) + 1 * ((r : ℕ) / 512 - 0) + 1 * ((l : ℕ) / 128 - 0) = _
    omega
  have hl : loc6Of (ix3 j r l) = ix3 j ⟨(r : ℕ) % 512, by omega⟩ l := by
    funext a; apply Fin.ext
    match a with
    | ⟨0, _⟩ => show (j : ℕ) % 12 = (j : ℕ); omega
    | ⟨1, _⟩ => rfl
    | ⟨2, _⟩ => show (l : ℕ) % 128 = (l : ℕ); omega
  unfold G6
  rw [dif_pos (by rw [hp, hN]; omega), hl, fold0_congr m c _ _ ((r : ℕ) / 512) (by omega) hp, ← outsAt0_sweep m c _ (by omega)]
  exact (out_eq m c _ _ _ r (by simp only; omega)).1 j l

/-- The kernel's second output array is the convolution's values and gates. -/
theorem G7_apply (c : Dev nD) (r : Fin 16384) (q : Fin 1024) :
    G7 m c (ix2 r q) = evenCol (V m c main_arg0) (V m c main_arg1) (V m c main_arg2) r ⟨1536 + q, by omega⟩ := by
  have hN : cfg0.N = 32 := N_0
  have hp : pt7Of (ix2 r q) = (r : ℕ) / 512 := by
    show 1 * ((r : ℕ) / 512 - 0) + 1 * ((q : ℕ) / 1024 - 0) = _
    omega
  have hl : loc7Of (ix2 r q) = ix2 ⟨(r : ℕ) % 512, by omega⟩ q := by
    funext a; apply Fin.ext
    match a with
    | ⟨0, _⟩ => rfl
    | ⟨1, _⟩ => show (q : ℕ) % 1024 = (q : ℕ); omega
  unfold G7
  rw [dif_pos (by rw [hp, hN]; omega), hl, fold0_congr m c _ _ ((r : ℕ) / 512) (by omega) hp, ← outsAt0_sweep m c _ (by omega)]
  exact (out_eq m c _ _ _ r (by simp only; omega)).2 q

end Cert.EvenInKernel
-- ==== Proof.EvenIn.Claim.lean ====
module

public import proofs.«01_k».proof.Proof.EvenIn.Kernel
public import proofs.«01_k».proof.Defs

set_option maxRecDepth 16384

@[expose] public section

noncomputable section

namespace Cert.EvenInClaim

open Idealize.ShloMosaic Idealize.ShloMosaic.TcCoe Idealize.SL.Sem
open Cert.EvenInIdeal Cert.EvenInIdeal.Gen Cert.EvenInIdeal.Value

/-- The reference keeps its arguments and leaves every counter at zero. -/
theorem ref_frame : quiescent_EvenInRefIdeal (hEvenInRefIdeal := EvenInRefIdeal.Gen.facts) := fun m ρ _ =>
  (θ_run _ _ _).mono (fun r h => ⟨fun c => (h c).2.2, sem_eq_zero_of_no_sems rfl r.2⟩) (EvenInRefIdeal.Value.run m ρ)

/-- The kernel computes the reference's results over the extended reals. -/
theorem value : algebraic_EvenInIdeal_EvenInRefIdeal (hEvenInIdeal := EvenInIdeal.Gen.facts) (hEvenInRefIdeal := EvenInRefIdeal.Gen.facts) := fun m ρ m' ρ' _ h =>
  ⟨fun c => G6 m c, fun c => G7 m c, run m ρ,
    (θ_run _ _ _).mono (fun _ hr c => ⟨(hr c).1.trans (by
      obtain ⟨e0, e1, e2⟩ := h c
      refine (EvenInRef.res_eq m' c).trans ?_
      rw [e0, e1, e2]
      funext idx
      obtain ⟨j, r, l, rfl⟩ : ∃ j r l, idx = ix3 j r l := ⟨_, _, _, eq_ix3 idx⟩
      refine (EvenInRef.joined_apply _ _ _ j r l).trans ((EvenInKernel.G6_apply m c j r l).trans ?_).symm
      rw [V_main_arg0, V_main_arg1, V_main_arg2]), (hr c).2.1.trans (by
      obtain ⟨e0, e1, e2⟩ := h c
      refine Eq.trans (b := EvenInRef.conv (m' (c.tc.loc EvenInRefIdeal.main_arg0)) (m' (c.tc.loc EvenInRefIdeal.main_arg1)) (m' (c.tc.loc EvenInRefIdeal.main_arg2))) rfl ?_
      rw [e0, e1, e2]
      funext idx
      obtain ⟨r, q, rfl⟩ : ∃ r q, idx = ix2 r q := ⟨_, _, eq_ix2 idx⟩
      refine (EvenInRef.conv_apply _ _ _ r q).trans ((EvenInKernel.G7_apply m c r q).trans ?_).symm
      rw [V_main_arg0, V_main_arg1, V_main_arg2]), (hr c).2.2⟩) (EvenInRefIdeal.Value.run m' ρ')⟩

end Cert.EvenInClaim
-- ==== Proof.OddIn.Ref.lean ====
module

public import proofs.«01_k».proof.Proof.Gen.OddInRefIdeal.Run
public import proofs.«01_k».proof.Proof.OddIn.Spec
public import Idealize.ShloMosaic.Lib.Claim
public import Idealize.ShloMosaic.Lib.Pointwise

set_option maxRecDepth 16384

@[expose] public section

noncomputable section

namespace Cert.OddInRef

open Idealize.ShloMosaic Idealize.ShloMosaic.TcCoe Idealize.SL.Sem
open Cert.ProjSpec Cert.OddInRefIdeal Cert.OddInRefIdeal.Gen Cert.OddInRefIdeal.Value

/-- The rotary angles: the position times the frequency. -/
def angles : FVec Ideal S8192x128 .f32 := (mulf (broadcastInDim S8192x128 ![0, 1] bcast_S8192x1_S8192x128_0_1 (broadcastInDim S8192x1 ![0] bcast_S8192_S8192x1_0 (sitofp .f32 (iotaInDim S8192 32 0)))) (broadcastInDim S8192x128 ![0, 1] bcast_S1x128_S8192x128_0_1 (broadcastInDim S1x128 ![1] bcast_S128_S1x128_1 (Host.powf (broadcastInDim S128 ![] bcast_S_S128 (constant S_ .f32 0x461C4000#32)) (Host.negf (concatenate S128 0 [⟨S127, (addf (mulf (broadcastInDim S127 ![0] bcast_S1_S127_0 (shapeCast _ (id (constant S_ .f32 0x00000000#32)) shapeCasts_S_S1)) (subf (broadcastInDim S127 ![] bcast_S_S127 (constant S_ .f32 0x3F800000#32)) (Host.divf (sitofp .f32 (iotaInDim S127 32 0)) (broadcastInDim S127 ![] bcast_S_S127 (constant S_ .f32 0x42FE0000#32))))) (mulf (broadcastInDim S127 ![0] bcast_S1_S127_0 (shapeCast _ (id (constant S_ .f32 0x3F800000#32)) shapeCasts_S_S1)) (Host.divf (sitofp .f32 (iotaInDim S127 32 0)) (broadcastInDim S127 ![] bcast_S_S127 (constant S_ .f32 0x42FE0000#32)))))⟩, ⟨S1, (broadcastInDim S1 ![] bcast_S_S1 (id (constant S_ .f32 0x3F800000#32)))⟩] concatenates_S127_S1_S128_d0))))))

/-- The cosines of the rotary angles. -/
def cosT : FVec Ideal S8192x128 .f32 := Host.cos angles

/-- The sines of the rotary angles. -/
def sinT : FVec Ideal S8192x128 .f32 := Host.sin angles

variable (h : FVec Ideal S16384x1024 .f32) (g : FVec Ideal S1024 .f32) (w : FVec Ideal S1x1024x6144 .f32)

/-- The normed rows' product with the weight. -/
def proj : FVec Ideal S2x8192x6144 .f32 := (Host.dotGeneral dot_S2x8192x1024_S1024x6144_S2x8192x6144_2_0_01_1_n_n none (mulf (mulf (shapeCast _ h shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ h shapeCasts_S16384x1024_S2x8192x1024) (shapeCast _ h shapeCasts_S16384x1024_S2x8192x1024)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (shapeCast _ w shapeCasts_S1x1024x6144_S1024x6144))

/-- The product at an index. -/
theorem proj_apply (b : Fin 2) (s : Fin 8192) (q : Fin 6144) (r : Fin 16384) (hr : (r : ℕ) = b * 8192 + s) :
    proj h g w (ix3 b s q) = projected (fun k => h (ix2 r k)) (fun k => g (ix1 k)) (fun k => w (ix3 0 k q)) := by
  unfold proj
  pointwise
  have e : (⟨b * 8192 + s, by omega⟩ : Fin 16384) = r := Fin.ext hr.symm
  simp only [e]
  rfl

/-- The queries, head by head. -/
def queries : FVec Ideal S2x4x8192x256 .f32 := transpose S2x4x8192x256 [0, 2, 1, 3] (shapeCast _ (extractStridedSlice S2x8192x1024 ![0, 0, 0] (proj h g w) slices_S2x8192x6144_S2x8192x1024_0_0_0) shapeCasts_S2x8192x1024_S2x8192x4x256) transposes_S2x8192x4x256_S2x4x8192x256_0_2_1_3

/-- The keys, head by head. -/
def keys : FVec Ideal S2x4x8192x256 .f32 := transpose S2x4x8192x256 [0, 2, 1, 3] (shapeCast _ (extractStridedSlice S2x8192x1024 ![0, 0, 1024] (proj h g w) slices_S2x8192x6144_S2x8192x1024_0_0_1024) shapeCasts_S2x8192x1024_S2x8192x4x256) transposes_S2x8192x4x256_S2x4x8192x256_0_2_1_3

/-- A query at an index. -/
theorem queries_apply (b : Fin 2) (hd : Fin 4) (s : Fin 8192) (d : Fin 256) :
    queries h g w (ix4 b hd s d) = proj h g w (ix3 b s ⟨256 * hd + d, by omega⟩) := by
  unfold queries
  pointwise
  exact congrArg (fun q => proj h g w (ix3 b s q)) (Fin.ext (by simp only; omega))

/-- A key at an index. -/
theorem keys_apply (b : Fin 2) (hd : Fin 4) (s : Fin 8192) (d : Fin 256) :
    keys h g w (ix4 b hd s d) = proj h g w (ix3 b s ⟨256 * (4 + hd) + d, by omega⟩) := by
  unfold keys
  pointwise
  exact congrArg (fun q => proj h g w (ix3 b s q)) (Fin.ext (by simp only; omega))

/-- The rotation of the heads. -/
def rotated (x : FVec Ideal S2x4x8192x256 .f32) : FVec Ideal S2x4x8192x256 .f32 :=
  concatenate S2x4x8192x256 3
    [⟨S2x4x8192x128, (subf (mulf (extractStridedSlice S2x4x8192x128 ![0, 0, 0, 0] x slices_S2x4x8192x256_S2x4x8192x128_0_0_0_0) (broadcastInDim S2x4x8192x128 ![0, 1, 2, 3] bcast_S1x1x8192x128_S2x4x8192x128_0_1_2_3 (broadcastInDim S1x1x8192x128 ![2, 3] bcast_S8192x128_S1x1x8192x128_2_3 cosT)))
      (mulf (extractStridedSlice S2x4x8192x128 ![0, 0, 0, 128] x slices_S2x4x8192x256_S2x4x8192x128_0_0_0_128) (broadcastInDim S2x4x8192x128 ![0, 1, 2, 3] bcast_S1x1x8192x128_S2x4x8192x128_0_1_2_3 (broadcastInDim S1x1x8192x128 ![2, 3] bcast_S8192x128_S1x1x8192x128_2_3 sinT))))⟩,
     ⟨S2x4x8192x128, (addf (mulf (extractStridedSlice S2x4x8192x128 ![0, 0, 0, 128] x slices_S2x4x8192x256_S2x4x8192x128_0_0_0_128) (broadcastInDim S2x4x8192x128 ![0, 1, 2, 3] bcast_S1x1x8192x128_S2x4x8192x128_0_1_2_3 (broadcastInDim S1x1x8192x128 ![2, 3] bcast_S8192x128_S1x1x8192x128_2_3 cosT)))
      (mulf (extractStridedSlice S2x4x8192x128 ![0, 0, 0, 0] x slices_S2x4x8192x256_S2x4x8192x128_0_0_0_0) (broadcastInDim S2x4x8192x128 ![0, 1, 2, 3] bcast_S1x1x8192x128_S2x4x8192x128_0_1_2_3 (broadcastInDim S1x1x8192x128 ![2, 3] bcast_S8192x128_S1x1x8192x128_2_3 sinT))))⟩]
    concatenates_S2x4x8192x128_S2x4x8192x128_S2x4x8192x256_d3

/-- The rotation at an index. -/
theorem rotated_apply (x : FVec Ideal S2x4x8192x256 .f32) (b : Fin 2) (hd : Fin 4) (s : Fin 8192) (d : Fin 256) :
    rotated x (ix4 b hd s d) = if hh : (d : ℕ) < 128 then x (ix4 b hd s d) * cosT (ix2 s ⟨d, hh⟩) - x (ix4 b hd s ⟨128 + d, by omega⟩) * sinT (ix2 s ⟨d, hh⟩)
      else x (ix4 b hd s d) * cosT (ix2 s ⟨d - 128, by omega⟩) + x (ix4 b hd s ⟨d - 128, by omega⟩) * sinT (ix2 s ⟨d - 128, by omega⟩) := by
  unfold rotated
  pointwise
  by_cases hh : (d : ℕ) < 128
  · rw [dif_pos hh, dif_pos hh]
  · rw [dif_neg hh, dif_neg hh, show (⟨128 + ((d : ℕ) - 128), by omega⟩ : Fin 256) = d from Fin.ext (by simp only; omega)]

/-- The rotation of the queries (`o` is 0) or the keys (`o` is 4) is the rotation of the row's columns. -/
theorem rotated_rot (x : FVec Ideal S2x4x8192x256 .f32) (a : Fin 2048 → EReal) (o : ℕ) (ho : o ≤ 4) (b : Fin 2) (s : Fin 8192)
    (hx : ∀ (hd : Fin 4) (d : Fin 256) (y : Fin 2048), (y : ℕ) = 256 * (o + hd) + d → x (ix4 b hd s d) = a y)
    (hd : Fin 4) (d : Fin 256) (y : Fin 2048) (hy : (y : ℕ) = 256 * (o + hd) + d) :
    scl (o + hd) (rotated x (ix4 b hd s d)) = rot a (fun d => cosT (ix2 s d)) (fun d => sinT (ix2 s d)) y := by
  rw [rotated_apply]
  by_cases hh : (d : ℕ) < 128
  · rw [dif_pos hh, rot_lo a _ _ (o + hd) ⟨d, hh⟩ y ⟨256 * (o + hd) + 128 + d, by omega⟩ hy rfl, hx hd d y hy,
      hx hd ⟨128 + d, by omega⟩ ⟨256 * (o + hd) + 128 + d, by omega⟩ (by simp only; omega)]
  · rw [dif_neg hh, rot_hi a _ _ (o + hd) ⟨d - 128, by omega⟩ y ⟨256 * (o + hd) + (d - 128), by omega⟩ (by simp only; omega) rfl, hx hd d y hy,
      hx hd ⟨d - 128, by omega⟩ ⟨256 * (o + hd) + (d - 128), by omega⟩ rfl]

/-- The four parts side by side. -/
def joined : FVec Ideal S16384x6144 .bf16 :=
  truncf .bf16 (shapeCast _ ((concatenate S2x8192x6144 2 [⟨S2x8192x1024, ((shapeCast _ (transpose S2x8192x4x256 [0, 2, 1, 3] (rotated (queries h g w)) transposes_S2x4x8192x256_S2x8192x4x256_0_2_1_3) shapeCasts_S2x8192x4x256_S2x8192x1024) : FVec Ideal S2x8192x1024 .f32)⟩,
    ⟨S2x8192x1024, ((shapeCast _ (transpose S2x8192x4x256 [0, 2, 1, 3] (mulf (rotated (keys h g w)) (broadcastInDim S2x4x8192x256 ![] bcast_S_S2x4x8192x256 (constant S_ .f32 0x3D800000#32))) transposes_S2x4x8192x256_S2x8192x4x256_0_2_1_3) shapeCasts_S2x8192x4x256_S2x8192x1024) : FVec Ideal S2x8192x1024 .f32)⟩,
    ⟨S2x8192x2048, ((extractStridedSlice S2x8192x2048 ![0, 0, 2048] (proj h g w) slices_S2x8192x6144_S2x8192x2048_0_0_2048) : FVec Ideal S2x8192x2048 .f32)⟩,
    ⟨S2x8192x2048, ((extractStridedSlice S2x8192x2048 ![0, 0, 4096] (proj h g w) slices_S2x8192x6144_S2x8192x2048_0_0_4096) : FVec Ideal S2x8192x2048 .f32)⟩]
    concatenates_S2x8192x1024_S2x8192x1024_S2x8192x2048_S2x8192x2048_S2x8192x6144_d2 : FVec Ideal S2x8192x6144 .f32)) shapeCasts_S2x8192x6144_S16384x6144) bitsLt_bf16_f32

/-- The reference's result is the four parts side by side. -/
theorem res_eq (m : (ℓ : Loc nD τ sig) → Buf (Elt Ideal) ℓ) (c : Dev nD) :
    res_main_v78 m c = joined (m ((c.tc : Thread nD τ).loc main_arg0)) (m ((c.tc : Thread nD τ).loc main_arg1)) (m ((c.tc : Thread nD τ).loc main_arg2)) := by
  unfold res_main_v78 joined rotated queries keys proj cosT sinT angles
  rfl

/-- The result at an index. -/
theorem joined_apply (r : Fin 16384) (q : Fin 6144) : joined h g w (ix2 r q) = oddAt h g w cosT sinT r q := by
  unfold joined
  pointwise
  have hr := r.isLt
  have hq := q.isLt
  have hp : ∀ q : Fin 6144, proj h g w (ix3 ⟨(r : ℕ) / 8192, by omega⟩ ⟨(r : ℕ) % 8192, by omega⟩ q)
      = projected (fun k => h (ix2 r k)) (fun k => g (ix1 k)) (fun k => w (ix3 0 k q)) :=
    fun q => proj_apply h g w _ _ q r (by simp only; omega)
  unfold oddAt
  simp only
  by_cases h1 : (q : ℕ) < 1024
  · rw [dif_pos h1, dif_pos (by omega), ← rotated_rot (queries h g w) _ 0 (by omega) ⟨(r : ℕ) / 8192, by omega⟩ ⟨(r : ℕ) % 8192, by omega⟩
      (fun hd d y hy => by
        rw [queries_apply, hp]
        exact congrArg (fun q => projected _ _ (fun k => w (ix3 0 k q))) (Fin.ext (by simp only; omega)))
      ⟨(q : ℕ) / 256, by omega⟩ ⟨(q : ℕ) % 256, by omega⟩ ⟨q, by omega⟩ (by simp only; omega)]
    exact (if_pos (by simp only; omega)).symm
  · rw [dif_neg h1]
    by_cases h2 : (q : ℕ) - 1024 < 1024
    · rw [dif_pos h2, dif_pos (by omega), ← rotated_rot (keys h g w) _ 4 (by omega) ⟨(r : ℕ) / 8192, by omega⟩ ⟨(r : ℕ) % 8192, by omega⟩
        (fun hd d y hy => by
          rw [keys_apply, hp]
          exact congrArg (fun q => projected _ _ (fun k => w (ix3 0 k q))) (Fin.ext (by simp only; omega)))
        ⟨((q : ℕ) - 1024) / 256, by omega⟩ ⟨((q : ℕ) - 1024) % 256, by omega⟩ ⟨q, by omega⟩ (by simp only; omega)]
      exact (if_neg (by simp only; omega)).symm
    · rw [dif_neg h2, dif_neg (show ¬(q : ℕ) < 2048 by omega)]
      by_cases h3 : (q : ℕ) - 1024 - 1024 < 2048
      · rw [dif_pos h3]
        exact (hp _).trans (congrArg (fun q => projected _ _ (fun k => w (ix3 0 k q))) (Fin.ext (by simp only; omega)))
      · rw [dif_neg h3]
        exact (hp _).trans (congrArg (fun q => projected _ _ (fun k => w (ix3 0 k q))) (Fin.ext (by simp only; omega)))

end Cert.OddInRef
-- ==== Proof.OddIn.Kernel.lean ====
module

public import proofs.«01_k».proof.Proof.Gen.OddInIdeal.Value
public import proofs.«01_k».proof.Proof.OddIn.Ref
public import Idealize.ShloMosaic.Lib.Pipeline.ValueKit
public import Idealize.ShloMosaic.Lib.Pipeline.ReadBack
public import Idealize.ShloMosaic.Lib.Claim

set_option maxRecDepth 16384

@[expose] public section

noncomputable section

namespace Cert.OddInKernel

open Idealize.ShloMosaic Idealize.ShloMosaic.TcCoe Idealize.SL.Sem
open Cert.ProjSpec Cert.OddInIdeal Cert.OddInIdeal.Gen Cert.OddInIdeal.Value

variable (m : (ℓ : Loc nD τ sig) → Buf (Elt Ideal) ℓ)

/-- The cast weight block at an index. -/
theorem pay1_apply (w : FVec Ideal S1x1024x2048 .f32) (k : Fin 1024) (q : Fin 2048) : k0_pay1 (F := Ideal) w (ix2 k q) = w (ix3 0 k q) := by
  pointwise [k0_pay1]

/-- The product of a row tile's normed rows and a weight block at an index. -/
theorem pay2_apply (h : FVec Ideal S1024x1024 .f32) (g : FVec Ideal S1x1024 .f32) (w : FVec Ideal S1024x2048 .bf16) (i : Fin 1024) (q : Fin 2048) :
    k0_pay2 (F := Ideal) h g w (ix2 i q) = projected (fun k => h (ix2 i k)) (fun k => g (ix2 0 k)) (fun k => w (ix2 k q)) := by
  pointwise [k0_pay2]
  rfl

/-- The first point of a column of blocks leaves the cast weight block in the scratch. -/
theorem soutA (c : Dev nD) (t : Fin cfg0.N) (acc : Vec Ideal S1024x2048 .bf16 × Vec Ideal S1024x2048 .bf16) (h0 : t.val % 16 = 0) (k : Fin 1024) (q : Fin 2048) :
    (stAt0 m c t.val t.isLt acc).2 (ix2 k q) = iblk m c 2 t (ix3 0 k q) := by
  by_cases h1 : t.val < 16
  · rw [stAt0_A m c t acc h0 h1 (by omega)]
    dsimp only
    frame_out
    exact pay1_apply _ k q
  · rw [stAt0_C m c t acc h0 h1 (by omega)]
    dsimp only
    frame_out
    exact pay1_apply _ k q

/-- A later point keeps the scratch. -/
theorem soutB (c : Dev nD) (t : Fin cfg0.N) (acc : Vec Ideal S1024x2048 .bf16 × Vec Ideal S1024x2048 .bf16) (h0 : ¬t.val % 16 = 0) :
    (stAt0 m c t.val t.isLt acc).2 = acc.2 := by
  by_cases h1 : t.val < 16
  · rw [stAt0_B m c t acc h0 h1 (by omega)]; rfl
  · rw [stAt0_D m c t acc h0 h1 (by omega)]; rfl

/-- What the first point writes of the values' or the gates' columns. -/
theorem outC (c : Dev nD) (t : Fin cfg0.N) (acc : Vec Ideal S1024x2048 .bf16 × Vec Ideal S1024x2048 .bf16) (h0 : t.val % 16 = 0) (h1 : ¬t.val < 16) (i : Fin 1024) (y : Fin 2048) :
    (stAt0 m c t.val t.isLt acc).1 (ix2 i y) = k0_pay2 (F := Ideal) (iblk m c 0 t) (iblk m c 1 t) (k0_pay1 (iblk m c 2 t)) (ix2 i y) := by
  rw [stAt0_C m c t acc h0 h1 (by omega)]
  dsimp only
  frame_open
  simp (disch := decide) only [↓ View.readCov_skip, ↓ View.readCov_cons_toLoadRect, ↓ View.readCov_fill]
  frame_out
  pointwise [k0_pay12]

/-- What a later point writes of the values' or the gates' columns. -/
theorem outD (c : Dev nD) (t : Fin cfg0.N) (acc : Vec Ideal S1024x2048 .bf16 × Vec Ideal S1024x2048 .bf16) (h0 : ¬t.val % 16 = 0) (h1 : ¬t.val < 16) (i : Fin 1024) (y : Fin 2048) :
    (stAt0 m c t.val t.isLt acc).1 (ix2 i y) = k0_pay2 (F := Ideal) (iblk m c 0 t) (iblk m c 1 t) acc.2 (ix2 i y) := by
  rw [stAt0_D m c t acc h0 h1 (by omega)]
  dsimp only
  frame_out
  refine Eq.trans ?_ (congrFun (congrArg (k0_pay2 (F := Ideal) (iblk m c 0 t) (iblk m c 1 t)) ((Memref.isWhole_whole cc0_scratch0).read_unread acc.2)) _)
  pointwise [k0_pay12]

/-- A piece of a row tile that holds the first halves of a head is the rotation there. -/
theorem piece_lo (P : FVec Ideal S1024x128 .bf16) (a : Fin 2048 → EReal) (cs sn : Fin 128 → EReal) (hd : ℕ) (hh : hd < 8) (x : S1024x128.Idx) (i : Fin 1024) (y : Fin 2048)
    (hx0 : (i : ℕ) = (x 0 : ℕ)) (hx1 : (y : ℕ) = 256 * hd + (x 1 : ℕ))
    (hP : ∀ d : Fin 128, P (ix2 i d) = scl hd (a ⟨256 * hd + d, by omega⟩ * cs d - a ⟨256 * hd + 128 + d, by omega⟩ * sn d)) : P x = rot a cs sn y := by
  obtain rfl : i = x 0 := Fin.ext hx0
  have e := hP (x 1)
  rw [show x = ix2 (x 0) (x 1) from (eq_ix2 x)]
  refine e.trans (rot_lo a cs sn hd (x 1) y ⟨256 * hd + 128 + (x 1 : ℕ), by have := (x 1).isLt; simp only [Matrix.cons_val_one, Matrix.cons_val_zero] at this; omega⟩ hx1 rfl ▸ ?_)
  rw [show (⟨256 * hd + (x 1 : ℕ), by omega⟩ : Fin 2048) = y from Fin.ext hx1.symm]

/-- A piece of a row tile that holds the second halves of a head is the rotation there. -/
theorem piece_hi (P : FVec Ideal S1024x128 .bf16) (a : Fin 2048 → EReal) (cs sn : Fin 128 → EReal) (hd : ℕ) (hh : hd < 8) (x : S1024x128.Idx) (i : Fin 1024) (y : Fin 2048)
    (hx0 : (i : ℕ) = (x 0 : ℕ)) (hx1 : (y : ℕ) = 256 * hd + 128 + (x 1 : ℕ))
    (hP : ∀ d : Fin 128, P (ix2 i d) = scl hd (a ⟨256 * hd + 128 + d, by omega⟩ * cs d + a ⟨256 * hd + d, by omega⟩ * sn d)) : P x = rot a cs sn y := by
  obtain rfl : i = x 0 := Fin.ext hx0
  have e := hP (x 1)
  rw [show x = ix2 (x 0) (x 1) from (eq_ix2 x)]
  refine e.trans (rot_hi a cs sn hd (x 1) y ⟨256 * hd + (x 1 : ℕ), by have := (x 1).isLt; simp only [Matrix.cons_val_one, Matrix.cons_val_zero] at this; omega⟩ hx1 rfl ▸ ?_)
  rw [show (⟨256 * hd + 128 + (x 1 : ℕ), by omega⟩ : Fin 2048) = y from Fin.ext hx1.symm]

/-- What a point writes of the queries' and keys' columns: `W` the scratch after the point. -/
theorem outAB (c : Dev nD) (t : Fin cfg0.N) (acc : Vec Ideal S1024x2048 .bf16 × Vec Ideal S1024x2048 .bf16) (h1 : t.val < 16) (i : Fin 1024) (y : Fin 2048)
    (W : FVec Ideal S1024x2048 .bf16) (hW : W = if t.val % 16 = 0 then k0_pay1 (F := Ideal) (iblk m c 2 t) else acc.2) :
    (stAt0 m c t.val t.isLt acc).1 (ix2 i y) = rot (fun q => k0_pay2 (F := Ideal) (iblk m c 0 t) (iblk m c 1 t) W (ix2 i q))
      (fun d => iblk m c 3 t (ix2 i d)) (fun d => iblk m c 4 t (ix2 i d)) y := by
  by_cases h0 : t.val % 16 = 0
  on_goal 1 =>
    rw [if_pos h0] at hW
    rw [stAt0_A m c t acc h0 h1 (by omega)]
    dsimp only
    frame_open
    simp (disch := decide) only [↓ View.readCov_skip, ↓ View.readCov_cons_toLoadRect, ↓ View.readCov_fill]
    frame_out
    rw [← hW]
  on_goal 2 =>
    rw [if_neg h0] at hW
    rw [stAt0_B m c t acc h0 h1 (by omega)]
    dsimp only
    frame_out
    rw [(Memref.isWhole_whole cc0_scratch0).read_unread acc.2, ← hW]
  all_goals
    canon_tiles x hx
  all_goals
    change (i : ℕ) = _ at hx0
    change (y : ℕ) = _ at hx1
    first
    | refine piece_lo _ (fun q => k0_pay2 (F := Ideal) (iblk m c 0 t) (iblk m c 1 t) W (ix2 i q)) _ _ 0 (by omega) x i y hx0 (by omega) fun d => ?_
    | refine piece_lo _ (fun q => k0_pay2 (F := Ideal) (iblk m c 0 t) (iblk m c 1 t) W (ix2 i q)) _ _ 1 (by omega) x i y hx0 (by omega) fun d => ?_
    | refine piece_lo _ (fun q => k0_pay2 (F := Ideal) (iblk m c 0 t) (iblk m c 1 t) W (ix2 i q)) _ _ 2 (by omega) x i y hx0 (by omega) fun d => ?_
    | refine piece_lo _ (fun q => k0_pay2 (F := Ideal) (iblk m c 0 t) (iblk m c 1 t) W (ix2 i q)) _ _ 3 (by omega) x i y hx0 (by omega) fun d => ?_
    | refine piece_lo _ (fun q => k0_pay2 (F := Ideal) (iblk m c 0 t) (iblk m c 1 t) W (ix2 i q)) _ _ 4 (by omega) x i y hx0 (by omega) fun d => ?_
    | refine piece_lo _ (fun q => k0_pay2 (F := Ideal) (iblk m c 0 t) (iblk m c 1 t) W (ix2 i q)) _ _ 5 (by omega) x i y hx0 (by omega) fun d => ?_
    | refine piece_lo _ (fun q => k0_pay2 (F := Ideal) (iblk m c 0 t) (iblk m c 1 t) W (ix2 i q)) _ _ 6 (by omega) x i y hx0 (by omega) fun d => ?_
    | refine piece_lo _ (fun q => k0_pay2 (F := Ideal) (iblk m c 0 t) (iblk m c 1 t) W (ix2 i q)) _ _ 7 (by omega) x i y hx0 (by omega) fun d => ?_
    | refine piece_hi _ (fun q => k0_pay2 (F := Ideal) (iblk m c 0 t) (iblk m c 1 t) W (ix2 i q)) _ _ 0 (by omega) x i y hx0 (by omega) fun d => ?_
    | refine piece_hi _ (fun q => k0_pay2 (F := Ideal) (iblk m c 0 t) (iblk m c 1 t) W (ix2 i q)) _ _ 1 (by omega) x i y hx0 (by omega) fun d => ?_
    | refine piece_hi _ (fun q => k0_pay2 (F := Ideal) (iblk m c 0 t) (iblk m c 1 t) W (ix2 i q)) _ _ 2 (by omega) x i y hx0 (by omega) fun d => ?_
    | refine piece_hi _ (fun q => k0_pay2 (F := Ideal) (iblk m c 0 t) (iblk m c 1 t) W (ix2 i q)) _ _ 3 (by omega) x i y hx0 (by omega) fun d => ?_
    | refine piece_hi _ (fun q => k0_pay2 (F := Ideal) (iblk m c 0 t) (iblk m c 1 t) W (ix2 i q)) _ _ 4 (by omega) x i y hx0 (by omega) fun d => ?_
    | refine piece_hi _ (fun q => k0_pay2 (F := Ideal) (iblk m c 0 t) (iblk m c 1 t) W (ix2 i q)) _ _ 5 (by omega) x i y hx0 (by omega) fun d => ?_
    | refine piece_hi _ (fun q => k0_pay2 (F := Ideal) (iblk m c 0 t) (iblk m c 1 t) W (ix2 i q)) _ _ 6 (by omega) x i y hx0 (by omega) fun d => ?_
    | refine piece_hi _ (fun q => k0_pay2 (F := Ideal) (iblk m c 0 t) (iblk m c 1 t) W (ix2 i q)) _ _ 7 (by omega) x i y hx0 (by omega) fun d => ?_
    pointwise [k0_pay3, k0_pay4, k0_pay5, k0_pay6, k0_pay7, k0_pay8, k0_pay9, k0_pay10, k0_pay11, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    simp [scl]

/-- The index maps of the five input windows. -/
theorem idx0 : ∀ t : Fin cfg0.N, win0_0.index t = ![t.val % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, t.val / 16] := (by decide +kernel : ∀ t : Fin grid0.N, _)
theorem idx3 : ∀ t : Fin cfg0.N, win0_3.index t = ![t.val % 8, 0] := (by decide +kernel : ∀ t : Fin grid0.N, _)
theorem idx4 : ∀ t : Fin cfg0.N, win0_4.index t = ![t.val % 8, 0] := (by decide +kernel : ∀ t : Fin grid0.N, _)

/-- The host's cosines are the reference's. -/
theorem entry_v10 (c : Dev nD) : V m c main_v10 = OddInRef.cosT := by
  entry_read
  rfl

/-- The host's sines are the reference's. -/
theorem entry_v11 (c : Dev nD) : V m c main_v11 = OddInRef.sinT := by
  entry_read
  rfl

/-- The reshaped gain is the gain. -/
theorem entry_v12 (c : Dev nD) (k : Fin 1024) : V m c main_v12 (ix2 0 k) = V m c main_arg1 (ix1 k) := by
  have e : V m c main_v12 = (shapeCast S1x1024 (m ((c.tc : Thread nD τ).loc main_arg1) : FVec Ideal S1024 .f32) shapeCasts_S1024_S1x1024 : FVec Ideal S1x1024 .f32) := rfl
  rw [V_main_arg1, e]
  pointwise

/-- The rows a point reads. -/
theorem read0 (c : Dev nD) (t : Fin cfg0.N) (i k : Fin 1024) (r : Fin 16384) (hr : (r : ℕ) = t.val % 16 * 1024 + i) :
    iblk m c 0 t (ix2 i k) = V m c main_arg0 (ix2 r k) := by
  blk_ext [iblk, idx0 t]

/-- The gain, whole at every point. -/
theorem read1 (c : Dev nD) (t : Fin cfg0.N) (k : Fin 1024) : iblk m c 1 t (ix2 0 k) = V m c main_arg1 (ix1 k) := by
  rw [← entry_v12 m c k]
  blk_ext [iblk, idx1 t]

/-- The weight's columns a point reads. -/
theorem read2 (c : Dev nD) (t : Fin cfg0.N) (k : Fin 1024) (y : Fin 2048) (q : Fin 6144) (hq : (q : ℕ) = t.val / 16 * 2048 + y) :
    iblk m c 2 t (ix3 0 k y) = V m c main_arg2 (ix3 0 k q) := by
  blk_ext [iblk, idx2 t]

/-- The cosines a point reads. -/
theorem read3 (c : Dev nD) (t : Fin cfg0.N) (i : Fin 1024) (d : Fin 128) (s : Fin 8192) (hs : (s : ℕ) = t.val % 8 * 1024 + i) :
    iblk m c 3 t (ix2 i d) = OddInRef.cosT (ix2 s d) := by
  rw [← entry_v10 m c]
  blk_ext [iblk, idx3 t]

/-- The sines a point reads. -/
theorem read4 (c : Dev nD) (t : Fin cfg0.N) (i : Fin 1024) (d : Fin 128) (s : Fin 8192) (hs : (s : ℕ) = t.val % 8 * 1024 + i) :
    iblk m c 4 t (ix2 i d) = OddInRef.sinT (ix2 s d) := by
  rw [← entry_v11 m c]
  blk_ext [iblk, idx4 t]

/-- After every point the scratch holds its column block of the cast weight. -/
theorem scratch_eq (c : Dev nD) (k : Fin 1024) (y : Fin 2048) : ∀ (n : ℕ) (hn : n < cfg0.N) (q : Fin 6144), (q : ℕ) = n / 16 * 2048 + y →
    (outsAt0 m c n hn).2 (ix2 k y) = V m c main_arg2 (ix3 0 k q)
  | 0, hn, q, hq => by rw [outsAt0_zero m c hn, soutA m c ⟨0, hn⟩ junk0 rfl k y]; exact read2 m c ⟨0, hn⟩ k y q hq
  | n + 1, hn, q, hq => by
    rw [outsAt0_succ m c n hn]
    by_cases h0 : (n + 1) % 16 = 0
    · rw [soutA m c ⟨n + 1, hn⟩ _ h0 k y]; exact read2 m c ⟨n + 1, hn⟩ k y q hq
    · rw [soutB m c ⟨n + 1, hn⟩ _ h0]; exact scratch_eq c k y n _ q (by omega)

/-- What a point writes, from the scratch after it: `W` the scratch. -/
theorem out_step (c : Dev nD) (t : Fin cfg0.N) (acc : Vec Ideal S1024x2048 .bf16 × Vec Ideal S1024x2048 .bf16) (i : Fin 1024) (y : Fin 2048)
    (hW : ∀ (k : Fin 1024) (y : Fin 2048) (q : Fin 6144), (q : ℕ) = t.val / 16 * 2048 + y → (stAt0 m c t.val t.isLt acc).2 (ix2 k y) = V m c main_arg2 (ix3 0 k q))
    (r : Fin 16384) (hr : (r : ℕ) = t.val % 16 * 1024 + i) (q : Fin 6144) (hq : (q : ℕ) = t.val / 16 * 2048 + y) :
    (stAt0 m c t.val t.isLt acc).1 (ix2 i y) = oddAt (V m c main_arg0) (V m c main_arg1) (V m c main_arg2) OddInRef.cosT OddInRef.sinT r q := by
  have hN := lt_of_lt_of_eq t.isLt (show cfg0.N = 48 from N_0)
  obtain ⟨W, hW1⟩ : ∃ W : FVec Ideal S1024x2048 .bf16, W = if t.val % 16 = 0 then k0_pay1 (F := Ideal) (iblk m c 2 t) else acc.2 := ⟨_, rfl⟩
  have hW2 : ∀ (k : Fin 1024) (y : Fin 2048) (q : Fin 6144), (q : ℕ) = t.val / 16 * 2048 + y → W (ix2 k y) = V m c main_arg2 (ix3 0 k q) := by
    intro k y q hq
    by_cases h0 : t.val % 16 = 0
    · rw [hW1, if_pos h0, pay1_apply]; exact read2 m c t k y q hq
    · rw [hW1, if_neg h0, ← hW k y q hq, soutB m c t acc h0]
  have hp : ∀ (y : Fin 2048) (q : Fin 6144), (q : ℕ) = t.val / 16 * 2048 + y → k0_pay2 (F := Ideal) (iblk m c 0 t) (iblk m c 1 t) W (ix2 i y)
      = projected (fun k => V m c main_arg0 (ix2 r k)) (fun k => V m c main_arg1 (ix1 k)) (fun k => V m c main_arg2 (ix3 0 k q)) := by
    intro y q hq
    rw [pay2_apply, funext fun k => read0 m c t i k r hr, funext fun k => read1 m c t k, funext fun k => hW2 k y q hq]
  unfold oddAt
  by_cases h1 : t.val < 16
  · rw [outAB m c t acc h1 i y W hW1]
    simp only
    rw [dif_pos (by omega)]
    have hs : (r : ℕ) % 8192 = t.val % 8 * 1024 + i := by omega
    rw [funext fun y => hp y ⟨y, by omega⟩ (by simp only; omega), funext fun d => read3 m c t i d ⟨(r : ℕ) % 8192, _⟩ hs, funext fun d => read4 m c t i d ⟨(r : ℕ) % 8192, _⟩ hs]
    exact congrArg _ (Fin.ext (show (y : ℕ) = q by omega))
  · simp only
    rw [dif_neg (by omega), ← hp y q hq]
    by_cases h0 : t.val % 16 = 0
    · rw [outC m c t acc h0 h1, hW1, if_pos h0]
    · rw [outD m c t acc h0 h1, hW1, if_neg h0]

/-- What point `n` leaves in the output window. -/
theorem out_eq (c : Dev nD) (i : Fin 1024) (y : Fin 2048) (n : ℕ) (hn : n < cfg0.N) (r : Fin 16384) (hr : (r : ℕ) = n % 16 * 1024 + i) (q : Fin 6144) (hq : (q : ℕ) = n / 16 * 2048 + y) :
    (outsAt0 m c n hn).1 (ix2 i y) = oddAt (V m c main_arg0) (V m c main_arg1) (V m c main_arg2) OddInRef.cosT OddInRef.sinT r q := by
  have hs := scratch_eq m c (n := n) (hn := hn)
  cases n with
  | zero =>
    simp only [outsAt0_zero m c hn] at hs ⊢
    exact out_step m c ⟨0, hn⟩ junk0 i y hs r hr q hq
  | succ n =>
    simp only [outsAt0_succ m c n hn] at hs ⊢
    exact out_step m c ⟨n + 1, hn⟩ _ i y hs r hr q hq

/-- The kernel's output array is the projection with its queries and keys rotated. -/
theorem G5_apply (c : Dev nD) (r : Fin 16384) (q : Fin 6144) :
    G5 m c (ix2 r q) = oddAt (V m c main_arg0) (V m c main_arg1) (V m c main_arg2) OddInRef.cosT OddInRef.sinT r q := by
  have hN : cfg0.N = 48 := N_0
  have hp : pt5Of (ix2 r q) = (r : ℕ) / 1024 + 16 * ((q : ℕ) / 2048) := by
    show 1 * ((r : ℕ) / 1024 - 0) + 16 * ((q : ℕ) / 2048 - 0) = _
    omega
  have hl : loc5Of (ix2 r q) = ix2 ⟨(r : ℕ) % 1024, by omega⟩ ⟨(q : ℕ) % 2048, by omega⟩ := by
    funext a; apply Fin.ext
    match a with
    | ⟨0, _⟩ => rfl
    | ⟨1, _⟩ => rfl
  unfold G5
  rw [dif_pos (by rw [hp, hN]; omega), hl, fold0_congr m c _ _ ((r : ℕ) / 1024 + 16 * ((q : ℕ) / 2048)) (by omega) hp, ← outsAt0_sweep m c _ (by omega)]
  exact out_eq m c _ _ _ _ r (by simp only; omega) q (by simp only; omega)

end Cert.OddInKernel
-- ==== Proof.OddIn.Claim.lean ====
module

public import proofs.«01_k».proof.Proof.OddIn.Kernel
public import proofs.«01_k».proof.Defs

set_option maxRecDepth 16384

@[expose] public section

noncomputable section

namespace Cert.OddInClaim

open Idealize.ShloMosaic Idealize.ShloMosaic.TcCoe Idealize.SL.Sem
open Cert.OddInIdeal Cert.OddInIdeal.Gen Cert.OddInIdeal.Value

/-- The reference keeps its arguments and leaves every counter at zero. -/
theorem ref_frame : quiescent_OddInRefIdeal (hOddInRefIdeal := OddInRefIdeal.Gen.facts) := fun m ρ _ =>
  (θ_run _ _ _).mono (fun r h => ⟨fun c => (h c).2, sem_eq_zero_of_no_sems rfl r.2⟩) (OddInRefIdeal.Value.run m ρ)

/-- The kernel computes the reference's result over the extended reals. -/
theorem value : algebraic_OddInIdeal_OddInRefIdeal (hOddInIdeal := OddInIdeal.Gen.facts) (hOddInRefIdeal := OddInRefIdeal.Gen.facts) := fun m ρ m' ρ' _ h =>
  ⟨fun c => G5 m c, run m ρ,
    (θ_run _ _ _).mono (fun _ hr c => ⟨(hr c).1.trans (by
      obtain ⟨e0, e1, e2⟩ := h c
      refine (OddInRef.res_eq m' c).trans ?_
      rw [e0, e1, e2]
      funext idx
      obtain ⟨r, q, rfl⟩ : ∃ r q, idx = ix2 r q := ⟨_, _, eq_ix2 idx⟩
      refine (OddInRef.joined_apply _ _ _ r q).trans ((OddInKernel.G5_apply m c r q).trans ?_).symm
      rw [V_main_arg0, V_main_arg1, V_main_arg2]), (hr c).2⟩) (OddInRefIdeal.Value.run m' ρ')⟩

end Cert.OddInClaim
-- ==== Proof.OddOut.Claim.lean ====
module

public import proofs.«01_k».proof.Proof.Gen.OddOutIdeal.Value
public import proofs.«01_k».proof.Proof.Gen.OddOutRefIdeal.Run
public import proofs.«01_k».proof.Defs
public import Idealize.ShloMosaic.Lib.Pipeline.ValueKit
public import Idealize.ShloMosaic.Lib.Pipeline.ReadBack
public import Idealize.ShloMosaic.Lib.Claim
public import Idealize.ShloMosaic.Lib.Pointwise

set_option maxRecDepth 16384

@[expose] public section

noncomputable section

namespace Cert.OddOutClaim

open Idealize.ShloMosaic Idealize.ShloMosaic.TcCoe Idealize.SL.Sem
open Cert.OddOutIdeal Cert.OddOutIdeal.Gen Cert.OddOutIdeal.Value

variable (m : (ℓ : Loc nD τ sig) → Buf (Elt Ideal) ℓ)

/-- One element of the residual plus the output projection of the gated heads. -/
def outAt (h : FVec Ideal S16384x1024 .f32) (y : FVec Ideal S16384x2048 .bf16) (w : FVec Ideal S1x2048x1024 .f32) (r : Fin 16384) (q : Fin 1024) : EReal :=
  h (ix2 r q) + ∑ k : Fin 2048, y (ix2 r k) * w (ix3 0 k q)

/-- The cast weight at an index. -/
theorem pay1_apply (w : FVec Ideal S1x2048x1024 .f32) (k : Fin 2048) (q : Fin 1024) : k0_pay1 (F := Ideal) w (ix2 k q) = w (ix3 0 k q) := by
  pointwise [k0_pay1]

/-- A row tile of the sum at an index. -/
theorem pay2_apply (h : FVec Ideal S1024x1024 .f32) (y : FVec Ideal S1024x2048 .bf16) (w : FVec Ideal S2048x1024 .bf16) (r q : Fin 1024) :
    k0_pay2 (F := Ideal) h y w (ix2 r q) = (h (ix2 r q) : EReal) + ∑ k : Fin 2048, (y (ix2 r k) : EReal) * w (ix2 k q) := by
  pointwise [k0_pay2]

/-- The index maps of the three input windows. -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0, 0] := (by decide +kernel : ∀ t : Fin grid0.N, _)

/-- The residual rows a point reads. -/
theorem read0 (c : Dev nD) (t : Fin cfg0.N) (i q : Fin 1024) (r : Fin 16384) (hr : (r : ℕ) = t.val * 1024 + i) :
    iblk m c 0 t (ix2 i q) = V m c main_arg0 (ix2 r q) := by
  blk_ext [iblk, idx0 t]

/-- The rows of gated heads a point reads. -/
theorem read1 (c : Dev nD) (t : Fin cfg0.N) (i : Fin 1024) (k : Fin 2048) (r : Fin 16384) (hr : (r : ℕ) = t.val * 1024 + i) :
    iblk m c 1 t (ix2 i k) = V m c main_arg1 (ix2 r k) := by
  blk_ext [iblk, idx1 t]

/-- The weight, whole at every point. -/
theorem read2 (c : Dev nD) (t : Fin cfg0.N) (k : Fin 2048) (q : Fin 1024) : iblk m c 2 t (ix3 0 k q) = V m c main_arg2 (ix3 0 k q) := by
  blk_ext [iblk, idx2 t]

/-- The first point leaves the cast weight in the scratch. -/
theorem soutA (c : Dev nD) (t : Fin cfg0.N) (acc : Vec Ideal S1024x1024 .f32 × Vec Ideal S2048x1024 .bf16) (h0 : t.val % 16 = 0) (k : Fin 2048) (q : Fin 1024) :
    (stAt0 m c t.val t.isLt acc).2 (ix2 k q) = V m c main_arg2 (ix3 0 k q) := by
  rw [stAt0_A m c t acc h0, ← read2 m c t]
  dsimp only
  frame_out
  exact pay1_apply _ k q

/-- A later point keeps the scratch. -/
theorem soutB (c : Dev nD) (t : Fin cfg0.N) (acc : Vec Ideal S1024x1024 .f32 × Vec Ideal S2048x1024 .bf16) (h0 : ¬t.val % 16 = 0) :
    (stAt0 m c t.val t.isLt acc).2 = acc.2 := by
  rw [stAt0_B m c t acc h0]
  rfl

/-- What the first point writes. -/
theorem outA (c : Dev nD) (t : Fin cfg0.N) (acc : Vec Ideal S1024x1024 .f32 × Vec Ideal S2048x1024 .bf16) (h0 : t.val % 16 = 0) (i q : Fin 1024) :
    (stAt0 m c t.val t.isLt acc).1 (ix2 i q) = k0_pay2 (F := Ideal) (iblk m c 0 t) (iblk m c 1 t) (k0_pay1 (iblk m c 2 t)) (ix2 i q) := by
  rw [stAt0_A m c t acc h0]
  dsimp only
  frame_open
  simp (disch := decide) only [↓ View.readCov_skip, ↓ View.readCov_cons_toLoadRect, ↓ View.readCov_fill]
  frame_out

/-- What a later point writes. -/
theorem outB (c : Dev nD) (t : Fin cfg0.N) (acc : Vec Ideal S1024x1024 .f32 × Vec Ideal S2048x1024 .bf16) (h0 : ¬t.val % 16 = 0) (i q : Fin 1024) :
    (stAt0 m c t.val t.isLt acc).1 (ix2 i q) = k0_pay2 (F := Ideal) (iblk m c 0 t) (iblk m c 1 t) acc.2 (ix2 i q) := by
  rw [stAt0_B m c t acc h0]
  dsimp only
  frame_out
  exact congrFun (congrArg (k0_pay2 (F := Ideal) (iblk m c 0 t) (iblk m c 1 t)) ((Memref.isWhole_whole cc0_scratch0).read_unread acc.2)) _

/-- After every point the scratch holds the cast weight. -/
theorem scratch_eq (c : Dev nD) (k : Fin 2048) (q : Fin 1024) : ∀ (n : ℕ) (hn : n < cfg0.N), (outsAt0 m c n hn).2 (ix2 k q) = V m c main_arg2 (ix3 0 k q)
  | 0, hn => by rw [outsAt0_zero m c hn]; exact soutA m c ⟨0, hn⟩ junk0 rfl k q
  | n + 1, hn => by
    have hN := lt_of_lt_of_eq hn (show cfg0.N = 16 from N_0)
    rw [outsAt0_succ m c n hn, soutB m c ⟨n + 1, hn⟩ _ (show ¬(n + 1) % 16 = 0 by omega)]
    exact scratch_eq c k q n _

/-- Point `n` writes row tile `n` of the result. -/
theorem out_eq (c : Dev nD) (i q : Fin 1024) (n : ℕ) (hn : n < cfg0.N) (r : Fin 16384) (hr : (r : ℕ) = n * 1024 + i) :
    (outsAt0 m c n hn).1 (ix2 i q) = outAt (V m c main_arg0) (V m c main_arg1) (V m c main_arg2) r q := by
  have hN := lt_of_lt_of_eq hn (show cfg0.N = 16 from N_0)
  unfold outAt
  cases n with
  | zero =>
    rw [outsAt0_zero m c hn, outA m c ⟨0, hn⟩ junk0 rfl i q, pay2_apply, read0 m c ⟨0, hn⟩ i q r hr]
    refine congrArg _ (Finset.sum_congr rfl fun k _ => ?_)
    rw [read1 m c ⟨0, hn⟩ i k r hr, pay1_apply, read2]
  | succ n =>
    rw [outsAt0_succ m c n hn, outB m c ⟨n + 1, hn⟩ _ (show ¬(n + 1) % 16 = 0 by omega) i q, pay2_apply, read0 m c ⟨n + 1, hn⟩ i q r hr]
    refine congrArg _ (Finset.sum_congr rfl fun k _ => ?_)
    rw [read1 m c ⟨n + 1, hn⟩ i k r hr, scratch_eq]

/-- The kernel's output array is the residual plus the projection. -/
theorem G3_apply (c : Dev nD) (r : Fin 16384) (q : Fin 1024) :
    G3 m c (ix2 r q) = outAt (V m c main_arg0) (V m c main_arg1) (V m c main_arg2) r q := by
  have hN : cfg0.N = 16 := N_0
  have hp : pt3Of (ix2 r q) = (r : ℕ) / 1024 := by
    show 1 * ((r : ℕ) / 1024 - 0) + 1 * ((q : ℕ) / 1024 - 0) = _
    omega
  have hl : loc3Of (ix2 r q) = ix2 ⟨(r : ℕ) % 1024, by omega⟩ q := by
    funext a; apply Fin.ext
    match a with
    | ⟨0, _⟩ => rfl
    | ⟨1, _⟩ => show (q : ℕ) % 1024 = (q : ℕ); omega
  unfold G3
  rw [dif_pos (by rw [hp, hN]; omega), hl, fold0_congr m c _ _ ((r : ℕ) / 1024) (by omega) hp, ← outsAt0_sweep m c _ (by omega)]
  exact out_eq m c _ q _ _ r (by simp only; omega)

/-- The reference's result at an index. -/
theorem ref_apply (h : FVec Ideal S16384x1024 .f32) (y : FVec Ideal S16384x2048 .bf16) (w : FVec Ideal S1x2048x1024 .f32) (r : Fin 16384) (q : Fin 1024) :
    addf h (Host.dotGeneral OddOutRefIdeal.dot_S16384x2048_S2048x1024_S16384x1024_1_0_0_1_n_n none (extf .f32 y OddOutRefIdeal.Facts₀.bitsLt_bf16_f32)
      (shapeCast _ w OddOutRefIdeal.Facts₀.shapeCasts_S1x2048x1024_S2048x1024)) (ix2 r q) = outAt h y w r q := by
  unfold outAt
  pointwise

/-- The reference keeps its arguments and leaves every counter at zero. -/
theorem ref_frame : quiescent_OddOutRefIdeal (hOddOutRefIdeal := OddOutRefIdeal.Gen.facts) := fun m ρ _ =>
  (θ_run _ _ _).mono (fun r h => ⟨fun c => (h c).2, sem_eq_zero_of_no_sems rfl r.2⟩) (OddOutRefIdeal.Value.run m ρ)

/-- The kernel computes the reference's result over the extended reals. -/
theorem value : algebraic_OddOutIdeal_OddOutRefIdeal (hOddOutIdeal := OddOutIdeal.Gen.facts) (hOddOutRefIdeal := OddOutRefIdeal.Gen.facts) := fun m ρ m' ρ' _ h =>
  ⟨fun c => G3 m c, run m ρ,
    (θ_run _ _ _).mono (fun _ hr c => ⟨(hr c).1.trans (by
      obtain ⟨e0, e1, e2⟩ := h c
      rw [e0, e1, e2]
      funext idx
      obtain ⟨r, q, rfl⟩ : ∃ r q, idx = ix2 r q := ⟨_, _, eq_ix2 idx⟩
      exact (ref_apply _ _ _ r q).trans (G3_apply m c r q).symm), (hr c).2⟩) (OddOutRefIdeal.Value.run m' ρ')⟩

end Cert.OddOutClaim
-- ==== Proof.lean ====
module

public import proofs.«01_k».proof.Defs
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.RetIdeal.Value
public import proofs.«01_k».proof.Proof.Gen.RetRefIdeal.Run
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutRefIdeal
public import proofs.«01_k».proof.Proof.Gen.OddOutIdeal.Value
public import proofs.«01_k».proof.Proof.Gen.OddOutRefIdeal.Run
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInRefIdeal
public import proofs.«01_k».proof.Proof.Gen.OddInIdeal.Value
public import proofs.«01_k».proof.Proof.Gen.OddInRefIdeal.Run
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInRefIdeal
public import proofs.«01_k».proof.Proof.Gen.EvenInIdeal.Value
public import proofs.«01_k».proof.Proof.Gen.EvenInRefIdeal.Run
public import proofs.«01_k».proof.Proof.Gen.EvenTail
public import proofs.«01_k».proof.Proof.Gen.EvenTail.Skeleton
public import proofs.«01_k».proof.Proof.Gen.EvenTail.Launch
public import proofs.«01_k».proof.Proof.Gen.EvenTail.Points
public import proofs.«01_k».proof.Proof.Gen.EvenTail.Frame
public import proofs.«01_k».proof.Proof.Gen.EvenTailIdeal
public import proofs.«01_k».proof.Proof.Gen.EvenTailIdeal.Skeleton
public import proofs.«01_k».proof.Proof.Gen.EvenTailIdeal.Launch
public import proofs.«01_k».proof.Proof.Gen.EvenTailIdeal.Points
public import proofs.«01_k».proof.Proof.Gen.EvenTailIdeal.Frame
public import proofs.«01_k».proof.Proof.Gen.EvenTailRefIdeal
public import proofs.«01_k».proof.Proof.Gen.EvenTailIdeal.Value
public import proofs.«01_k».proof.Proof.Gen.EvenTailRefIdeal.Run
public import proofs.«01_k».proof.Proof.Ret.Claim
public import proofs.«01_k».proof.Proof.EvenTail.Claim
public import proofs.«01_k».proof.Proof.EvenIn.Claim
public import proofs.«01_k».proof.Proof.OddIn.Claim
public import proofs.«01_k».proof.Proof.OddOut.Claim
public import Idealize.ShloMosaic.Adequacy
public import Idealize.ShloMosaic.Init

@[expose] public section

noncomputable section

namespace Cert.Proof

open Idealize.ShloMosaic Idealize.SL.Sem Cert.Ret

theorem claim : Cert.Claim :=
  ⟨Cert.Ret.Gen.facts, Cert.RetIdeal.Gen.facts, Cert.RetRefIdeal.Gen.facts,
    Cert.OddOut.Gen.facts, Cert.OddOutIdeal.Gen.facts, Cert.OddOutRefIdeal.Gen.facts,
    Cert.OddIn.Gen.facts, Cert.OddInIdeal.Gen.facts, Cert.OddInRefIdeal.Gen.facts,
    Cert.EvenIn.Gen.facts, Cert.EvenInIdeal.Gen.facts, Cert.EvenInRefIdeal.Gen.facts,
    Cert.EvenTail.Gen.facts, Cert.EvenTailIdeal.Gen.facts, Cert.EvenTailRefIdeal.Gen.facts,
    fun m ρ _ => Cert.Ret.Gen.frame m ρ, fun m ρ _ => Cert.RetIdeal.Gen.frame m ρ, Cert.RetClaim.ref_frame,
    fun m ρ _ => Cert.OddOut.Gen.frame m ρ, fun m ρ _ => Cert.OddOutIdeal.Gen.frame m ρ, Cert.OddOutClaim.ref_frame,
    fun m ρ _ => Cert.OddIn.Gen.frame m ρ, fun m ρ _ => Cert.OddInIdeal.Gen.frame m ρ, Cert.OddInClaim.ref_frame,
    fun m ρ _ => Cert.EvenIn.Gen.frame m ρ, fun m ρ _ => Cert.EvenInIdeal.Gen.frame m ρ, Cert.EvenInClaim.ref_frame,
    fun m ρ _ => Cert.EvenTail.Gen.frame m ρ, fun m ρ _ => Cert.EvenTailIdeal.Gen.frame m ρ, Cert.EvenTailClaim.ref_frame,
    trivial, Cert.RetClaim.value,
    trivial, Cert.OddOutClaim.value,
    trivial, Cert.OddInClaim.value,
    trivial, Cert.EvenInClaim.value,
    trivial, Cert.EvenTailClaim.value⟩

end Cert.Proof

end
